-- ==== Defs.lean ====
def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestRefIdeal (m : (ℓ : Loc Cert.NearestRefIdeal.nD Cert.NearestRefIdeal.τ Cert.NearestRefIdeal.sig) → Buf (Elt Ideal) ℓ) : Prop :=
  True

def Pre_Lookup [hPre_in_range : Cert.Pre_in_range.Facts] (m : (ℓ : Loc Cert.Lookup.nD Cert.Lookup.τ Cert.Lookup.sig) → Buf (Elt Bits) ℓ) : Prop :=
  ∀ c : Dev Cert.Lookup.nD,
    (Cert.Pre_in_range.fn (F := Bits) (m ((c.tc : Thread Cert.Lookup.nD Cert.Lookup.τ).loc Cert.Lookup.main_arg0)) (m ((c.tc : Thread Cert.Lookup.nD Cert.Lookup.τ).loc Cert.Lookup.main_arg1)) (m ((c.tc : Thread Cert.Lookup.nD Cert.Lookup.τ).loc Cert.Lookup.main_arg2))) = (fun _ => 1#1)

def Pre_LookupIdeal [hPre_in_range : Cert.Pre_in_range.Facts] (m : (ℓ : Loc Cert.LookupIdeal.nD Cert.LookupIdeal.τ Cert.LookupIdeal.sig) → Buf (Elt Ideal) ℓ) : Prop :=
  ∀ c : Dev Cert.LookupIdeal.nD,
    (Cert.Pre_in_range.fn (F := Ideal) (m ((c.tc : Thread Cert.LookupIdeal.nD Cert.LookupIdeal.τ).loc Cert.LookupIdeal.main_arg0)) (m ((c.tc : Thread Cert.LookupIdeal.nD Cert.LookupIdeal.τ).loc Cert.LookupIdeal.main_arg1)) (m ((c.tc : Thread Cert.LookupIdeal.nD Cert.LookupIdeal.τ).loc Cert.LookupIdeal.main_arg2))) = (fun _ => 1#1)

def Pre_LookupRefIdeal (m : (ℓ : Loc Cert.LookupRefIdeal.nD Cert.LookupRefIdeal.τ Cert.LookupRefIdeal.sig) → Buf (Elt Ideal) ℓ) : Prop :=
  True

def Pre_LookupRefIdeal_in_range [hPre_in_range : Cert.Pre_in_range.Facts] (m : (ℓ : Loc Cert.LookupRefIdeal.nD Cert.LookupRefIdeal.τ Cert.LookupRefIdeal.sig) → Buf (Elt Ideal) ℓ) : Prop :=
  ∀ c : Dev Cert.LookupRefIdeal.nD,
    (Cert.Pre_in_range.fn (F := Ideal) (m ((c.tc : Thread Cert.LookupRefIdeal.nD Cert.LookupRefIdeal.τ).loc Cert.LookupRefIdeal.main_arg0)) (m ((c.tc : Thread Cert.LookupRefIdeal.nD Cert.LookupRefIdeal.τ).loc Cert.LookupRefIdeal.main_arg1)) (m ((c.tc : Thread Cert.LookupRefIdeal.nD Cert.LookupRefIdeal.τ).loc Cert.LookupRefIdeal.main_arg2))) = (fun _ => 1#1)

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestRefIdeal [hNearestRefIdeal : Cert.NearestRefIdeal.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0)
      ∧ r.2.mem ((c.tc : Thread Cert.NearestRefIdeal.nD Cert.NearestRefIdeal.τ).loc Cert.NearestRefIdeal.main_arg1) = m ((c.tc : Thread Cert.NearestRefIdeal.nD Cert.NearestRefIdeal.τ).loc Cert.NearestRefIdeal.main_arg1))
      ∧ r.2.sem = fun _ => 0)

def quiescent_Lookup [hLookup : Cert.Lookup.Facts] [hPre_in_range : Cert.Pre_in_range.Facts] : Prop :=
  ∀ (m : (ℓ : Loc Cert.Lookup.nD Cert.Lookup.τ Cert.Lookup.sig) → Buf (Elt Bits) ℓ) (g : Dev Cert.Lookup.nD → PrngReg), Pre_Lookup m →
    θ_run (Cert.Lookup.defs (F := Bits)) (onTc (τ := Cert.Lookup.τ) (Cert.Lookup.main (F := Bits))) ⟨m, fun _ => 0, g⟩ (fun r => (∀ c : Dev Cert.Lookup.nD,
      r.2.mem ((c.tc : Thread Cert.Lookup.nD Cert.Lookup.τ).loc Cert.Lookup.main_arg0) = m ((c.tc : Thread Cert.Lookup.nD Cert.Lookup.τ).loc Cert.Lookup.main_arg0)
      ∧ r.2.mem ((c.tc : Thread Cert.Lookup.nD Cert.Lookup.τ).loc Cert.Lookup.main_arg1) = m ((c.tc : Thread Cert.Lookup.nD Cert.Lookup.τ).loc Cert.Lookup.main_arg1)
      ∧ r.2.mem ((c.tc : Thread Cert.Lookup.nD Cert.Lookup.τ).loc Cert.Lookup.main_arg2) = m ((c.tc : Thread Cert.Lookup.nD Cert.Lookup.τ).loc Cert.Lookup.main_arg2))
      ∧ r.2.sem = fun _ => 0)

def quiescent_LookupIdeal [hLookupIdeal : Cert.LookupIdeal.Facts] [hPre_in_range : Cert.Pre_in_range.Facts] : Prop :=
  ∀ (m : (ℓ : Loc Cert.LookupIdeal.nD Cert.LookupIdeal.τ Cert.LookupIdeal.sig) → Buf (Elt Ideal) ℓ) (g : Dev Cert.LookupIdeal.nD → PrngReg), Pre_LookupIdeal m →
    θ_run (Cert.LookupIdeal.defs (F := Ideal)) (onTc (τ := Cert.LookupIdeal.τ) (Cert.LookupIdeal.main (F := Ideal))) ⟨m, fun _ => 0, g⟩ (fun r => (∀ c : Dev Cert.LookupIdeal.nD,
      r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
      ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1)
      ∧ r.2.mem ((c.tc : Thread Cert.LookupIdeal.nD Cert.LookupIdeal.τ).loc Cert.LookupIdeal.main_arg2) = m ((c.tc : Thread Cert.LookupIdeal.nD Cert.LookupIdeal.τ).loc Cert.LookupIdeal.main_arg2))
      ∧ r.2.sem = fun _ => 0)

def quiescent_LookupRefIdeal [hLookupRefIdeal : Cert.LookupRefIdeal.Facts] : Prop :=
  ∀ (m : (ℓ : Loc Cert.LookupRefIdeal.nD Cert.LookupRefIdeal.τ Cert.LookupRefIdeal.sig) → Buf (Elt Ideal) ℓ) (g : Dev Cert.LookupRefIdeal.nD → PrngReg), Pre_LookupRefIdeal m →
    θ_run (Cert.LookupRefIdeal.defs (F := Ideal)) (onTc (τ := Cert.LookupRefIdeal.τ) (Cert.LookupRefIdeal.main (F := Ideal))) ⟨m, fun _ => 0, g⟩ (fun r => (∀ c : Dev Cert.LookupRefIdeal.nD,
      r.2.mem ((c.tc : Thread Cert.LookupRefIdeal.nD Cert.LookupRefIdeal.τ).loc Cert.LookupRefIdeal.main_arg0) = m ((c.tc : Thread Cert.LookupRefIdeal.nD Cert.LookupRefIdeal.τ).loc Cert.LookupRefIdeal.main_arg0)
      ∧ r.2.mem ((c.tc : Thread Cert.LookupRefIdeal.nD Cert.LookupRefIdeal.τ).loc Cert.LookupRefIdeal.main_arg1) = m ((c.tc : Thread Cert.LookupRefIdeal.nD Cert.LookupRefIdeal.τ).loc Cert.LookupRefIdeal.main_arg1)
      ∧ r.2.mem ((c.tc : Thread Cert.LookupRefIdeal.nD Cert.LookupRefIdeal.τ).loc Cert.LookupRefIdeal.main_arg2) = m ((c.tc : Thread Cert.LookupRefIdeal.nD Cert.LookupRefIdeal.τ).loc Cert.LookupRefIdeal.main_arg2))
      ∧ r.2.sem = fun _ => 0)

def quiescent_LookupRefIdeal_pre_in_range [hLookupRefIdeal : Cert.LookupRefIdeal.Facts] [hPre_in_range : Cert.Pre_in_range.Facts] : Prop :=
  ∀ (m : (ℓ : Loc Cert.LookupRefIdeal.nD Cert.LookupRefIdeal.τ Cert.LookupRefIdeal.sig) → Buf (Elt Ideal) ℓ) (g : Dev Cert.LookupRefIdeal.nD → PrngReg), Pre_LookupRefIdeal_in_range m →
    θ_run (Cert.LookupRefIdeal.defs (F := Ideal)) (onTc (τ := Cert.LookupRefIdeal.τ) (Cert.LookupRefIdeal.main (F := Ideal))) ⟨m, fun _ => 0, g⟩ (fun r => (∀ c : Dev Cert.LookupRefIdeal.nD,
      r.2.mem ((c.tc : Thread Cert.LookupRefIdeal.nD Cert.LookupRefIdeal.τ).loc Cert.LookupRefIdeal.main_arg0) = m ((c.tc : Thread Cert.LookupRefIdeal.nD Cert.LookupRefIdeal.τ).loc Cert.LookupRefIdeal.main_arg0)
      ∧ r.2.mem ((c.tc : Thread Cert.LookupRefIdeal.nD Cert.LookupRefIdeal.τ).loc Cert.LookupRefIdeal.main_arg1) = m ((c.tc : Thread Cert.LookupRefIdeal.nD Cert.LookupRefIdeal.τ).loc Cert.LookupRefIdeal.main_arg1)
      ∧ r.2.mem ((c.tc : Thread Cert.LookupRefIdeal.nD Cert.LookupRefIdeal.τ).loc Cert.LookupRefIdeal.main_arg2) = m ((c.tc : Thread Cert.LookupRefIdeal.nD Cert.LookupRefIdeal.τ).loc Cert.LookupRefIdeal.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Nearest_NearestIdeal : Prop :=
  True

def algebraic_NearestIdeal_NearestRefIdeal [hNearestIdeal : Cert.NearestIdeal.Facts] [hNearestRefIdeal : Cert.NearestRefIdeal.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestRefIdeal.nD Cert.NearestRefIdeal.τ Cert.NearestRefIdeal.sig) → Buf (Elt Ideal) ℓ) (g' : Dev Cert.NearestRefIdeal.nD → PrngReg), Pre_NearestIdeal m →
    (∀ c : Dev Cert.NearestIdeal.nD,
      m' ((c.tc : Thread Cert.NearestRefIdeal.nD Cert.NearestRefIdeal.τ).loc Cert.NearestRefIdeal.main_arg0) = m ((c.tc : Thread Cert.NearestIdeal.nD Cert.NearestIdeal.τ).loc Cert.NearestIdeal.main_arg0)
      ∧ m' ((c.tc : Thread Cert.NearestRefIdeal.nD Cert.NearestRefIdeal.τ).loc Cert.NearestRefIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v8)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v8) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.NearestRefIdeal.defs (F := Ideal)) (onTc (τ := Cert.NearestRefIdeal.τ) (Cert.NearestRefIdeal.main (F := Ideal))) ⟨m', fun _ => 0, g'⟩ (fun r => ∀ c : Dev Cert.NearestRefIdeal.nD,
          r.2.mem ((c.tc : Thread Cert.NearestRefIdeal.nD Cert.NearestRefIdeal.τ).loc Cert.NearestRefIdeal.main_v16) = v0 c
          ∧ r.2.mem ((c.tc : Thread Cert.NearestRefIdeal.nD Cert.NearestRefIdeal.τ).loc Cert.NearestRefIdeal.main_arg0) = m' ((c.tc : Thread Cert.NearestRefIdeal.nD Cert.NearestRefIdeal.τ).loc Cert.NearestRefIdeal.main_arg0)
          ∧ r.2.mem ((c.tc : Thread Cert.NearestRefIdeal.nD Cert.NearestRefIdeal.τ).loc Cert.NearestRefIdeal.main_arg1) = m' ((c.tc : Thread Cert.NearestRefIdeal.nD Cert.NearestRefIdeal.τ).loc Cert.NearestRefIdeal.main_arg1))

def preserves_Lookup_LookupIdeal : Prop :=
  True

def algebraic_LookupIdeal_LookupRefIdeal [hLookupIdeal : Cert.LookupIdeal.Facts] [hLookupRefIdeal : Cert.LookupRefIdeal.Facts] [hPre_in_range : Cert.Pre_in_range.Facts] : Prop :=
  ∀ (m : (ℓ : Loc Cert.LookupIdeal.nD Cert.LookupIdeal.τ Cert.LookupIdeal.sig) → Buf (Elt Ideal) ℓ) (g : Dev Cert.LookupIdeal.nD → PrngReg)
    (m' : (ℓ : Loc Cert.LookupRefIdeal.nD Cert.LookupRefIdeal.τ Cert.LookupRefIdeal.sig) → Buf (Elt Ideal) ℓ) (g' : Dev Cert.LookupRefIdeal.nD → PrngReg), Pre_LookupIdeal m →
    (∀ c : Dev Cert.LookupIdeal.nD,
      m' ((c.tc : Thread Cert.LookupRefIdeal.nD Cert.LookupRefIdeal.τ).loc Cert.LookupRefIdeal.main_arg0) = m ((c.tc : Thread Cert.LookupIdeal.nD Cert.LookupIdeal.τ).loc Cert.LookupIdeal.main_arg0)
      ∧ m' ((c.tc : Thread Cert.LookupRefIdeal.nD Cert.LookupRefIdeal.τ).loc Cert.LookupRefIdeal.main_arg1) = m ((c.tc : Thread Cert.LookupIdeal.nD Cert.LookupIdeal.τ).loc Cert.LookupIdeal.main_arg1)
      ∧ m' ((c.tc : Thread Cert.LookupRefIdeal.nD Cert.LookupRefIdeal.τ).loc Cert.LookupRefIdeal.main_arg2) = m ((c.tc : Thread Cert.LookupIdeal.nD Cert.LookupIdeal.τ).loc Cert.LookupIdeal.main_arg2)) →
    ∃ (v0 : (c : Dev Cert.LookupIdeal.nD) → Buf (Elt Ideal) ((c.tc : Thread Cert.LookupIdeal.nD Cert.LookupIdeal.τ).loc Cert.LookupIdeal.main_v3_0)) (v1 : (c : Dev Cert.LookupIdeal.nD) → Buf (Elt Ideal) ((c.tc : Thread Cert.LookupIdeal.nD Cert.LookupIdeal.τ).loc Cert.LookupIdeal.main_v3_1)),
      θ_run (Cert.LookupIdeal.defs (F := Ideal)) (onTc (τ := Cert.LookupIdeal.τ) (Cert.LookupIdeal.main (F := Ideal))) ⟨m, fun _ => 0, g⟩ (fun r => ∀ c : Dev Cert.LookupIdeal.nD,
          r.2.mem ((c.tc : Thread Cert.LookupIdeal.nD Cert.LookupIdeal.τ).loc Cert.LookupIdeal.main_v3_0) = v0 c
          ∧ r.2.mem ((c.tc : Thread Cert.LookupIdeal.nD Cert.LookupIdeal.τ).loc Cert.LookupIdeal.main_v3_1) = v1 c
          ∧ r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
          ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1)
          ∧ r.2.mem ((c.tc : Thread Cert.LookupIdeal.nD Cert.LookupIdeal.τ).loc Cert.LookupIdeal.main_arg2) = m ((c.tc : Thread Cert.LookupIdeal.nD Cert.LookupIdeal.τ).loc Cert.LookupIdeal.main_arg2))
      ∧ θ_run (Cert.LookupRefIdeal.defs (F := Ideal)) (onTc (τ := Cert.LookupRefIdeal.τ) (Cert.LookupRefIdeal.main (F := Ideal))) ⟨m', fun _ => 0, g'⟩ (fun r => ∀ c : Dev Cert.LookupRefIdeal.nD,
          r.2.mem ((c.tc : Thread Cert.LookupRefIdeal.nD Cert.LookupRefIdeal.τ).loc Cert.LookupRefIdeal.main_v9) = v0 c
          ∧ r.2.mem ((c.tc : Thread Cert.LookupRefIdeal.nD Cert.LookupRefIdeal.τ).loc Cert.LookupRefIdeal.main_v10) = v1 c
          ∧ r.2.mem ((c.tc : Thread Cert.LookupRefIdeal.nD Cert.LookupRefIdeal.τ).loc Cert.LookupRefIdeal.main_arg0) = m' ((c.tc : Thread Cert.LookupRefIdeal.nD Cert.LookupRefIdeal.τ).loc Cert.LookupRefIdeal.main_arg0)
          ∧ r.2.mem ((c.tc : Thread Cert.LookupRefIdeal.nD Cert.LookupRefIdeal.τ).loc Cert.LookupRefIdeal.main_arg1) = m' ((c.tc : Thread Cert.LookupRefIdeal.nD Cert.LookupRefIdeal.τ).loc Cert.LookupRefIdeal.main_arg1)
          ∧ r.2.mem ((c.tc : Thread Cert.LookupRefIdeal.nD Cert.LookupRefIdeal.τ).loc Cert.LookupRefIdeal.main_arg2) = m' ((c.tc : Thread Cert.LookupRefIdeal.nD Cert.LookupRefIdeal.τ).loc Cert.LookupRefIdeal.main_arg2))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hNearest : Cert.Nearest.Facts) (hNearestIdeal : Cert.NearestIdeal.Facts) (hNearestRefIdeal : Cert.NearestRefIdeal.Facts) (hLookup : Cert.Lookup.Facts) (hLookupIdeal : Cert.LookupIdeal.Facts) (hLookupRefIdeal : Cert.LookupRefIdeal.Facts) (hKernelIdeal : Cert.KernelIdeal.Facts) (hReferenceIdeal : Cert.ReferenceIdeal.Facts) (hPre_in_range : Cert.Pre_in_range.Facts),
    quiescent_Nearest (hNearest := hNearest)
    ∧ quiescent_NearestIdeal (hNearestIdeal := hNearestIdeal)
    ∧ quiescent_NearestRefIdeal (hNearestRefIdeal := hNearestRefIdeal)
    ∧ quiescent_Lookup (hLookup := hLookup) (hPre_in_range := hPre_in_range)
    ∧ quiescent_LookupIdeal (hLookupIdeal := hLookupIdeal) (hPre_in_range := hPre_in_range)
    ∧ quiescent_LookupRefIdeal (hLookupRefIdeal := hLookupRefIdeal)
    ∧ quiescent_LookupRefIdeal_pre_in_range (hLookupRefIdeal := hLookupRefIdeal) (hPre_in_range := hPre_in_range)
    ∧ quiescent_KernelIdeal (hKernelIdeal := hKernelIdeal)
    ∧ quiescent_ReferenceIdeal (hReferenceIdeal := hReferenceIdeal)
    ∧ preserves_Nearest_NearestIdeal
    ∧ algebraic_NearestIdeal_NearestRefIdeal (hNearestIdeal := hNearestIdeal) (hNearestRefIdeal := hNearestRefIdeal)
    ∧ preserves_Lookup_LookupIdeal
    ∧ algebraic_LookupIdeal_LookupRefIdeal (hLookupIdeal := hLookupIdeal) (hLookupRefIdeal := hLookupRefIdeal) (hPre_in_range := hPre_in_range)
    ∧ algebraic_KernelIdeal_ReferenceIdeal (hKernelIdeal := hKernelIdeal) (hReferenceIdeal := hReferenceIdeal)
-- ==== Pre_in_range.lean ====
abbrev S16384x1 : Shape := ⟨2, ![16384, 1]⟩
abbrev S16x1024x64 : Shape := ⟨3, ![16, 1024, 64]⟩
abbrev S64x8192 : Shape := ⟨2, ![64, 8192]⟩
abbrev S_ : Shape := ⟨0, ![]⟩

class Facts : Prop where
  bcast_S_S16384x1 : S_.BroadcastsInDim S16384x1 (![] : Fin 0 → Fin S16384x1.rank)

variable [Facts]

def fn {F : FTy → Type} [FloatOps F] (main_arg0 : IVec S16384x1 32) (main_arg1 : FVec F S16x1024x64 .f32) (main_arg2 : FVec F S64x8192 .f32) : IVec S16384x1 1 :=
  let main_c : IVec S_ 32 := constantI S_ 32 0#32
  let main_v0 : IVec S16384x1 32 := broadcastInDim S16384x1 ![] bcast_S_S16384x1 main_c
  let main_v1 : IVec S16384x1 1 := cmpi .sge main_arg0 main_v0
  let main_c_0 : IVec S_ 32 := constantI S_ 32 8192#32
  let main_v2 : IVec S16384x1 32 := broadcastInDim S16384x1 ![] bcast_S_S16384x1 main_c_0
  let main_v3 : IVec S16384x1 1 := cmpi .slt main_arg0 main_v2
  let main_v4 : IVec S16384x1 1 := andi main_v1 main_v3
  main_v4
-- ==== Nearest.lean ====
abbrev S16x1024x64 : Shape := ⟨3, ![16, 1024, 64]⟩
abbrev S64x8192 : Shape := ⟨2, ![64, 8192]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S256x64 : Shape := ⟨2, ![256, 64]⟩
abbrev S256x1 : Shape := ⟨2, ![256, 1]⟩
abbrev S256x8192 : Shape := ⟨2, ![256, 8192]⟩
abbrev S256x4096 : Shape := ⟨2, ![256, 4096]⟩
abbrev S256 : Shape := ⟨1, ![256]⟩

abbrev nBuf : Space → Nat
  | .hbm => 13
  | .vmem => 8
  | .smem => 0
  | _ => 0

abbrev bufTy : (tb : Table) → Fin (tcTables nBuf tb) → BufTy
  | .hbm, ⟨0, _⟩ => ⟨S16x1024x64, .f32⟩
  | .hbm, ⟨1, _⟩ => ⟨S64x8192, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S64x8192, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S64x8192, .bf16⟩
  | .hbm, ⟨12, _⟩ => ⟨S16384x1, .i32⟩
  | .local _ .vmem, ⟨0, _⟩ => ⟨S256x64, .f32⟩
  | .local _ .vmem, ⟨1, _⟩ => ⟨S256x64, .f32⟩
  | .local _ .vmem, ⟨2, _⟩ => ⟨S64x8192, .bf16⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S256x1, .i32⟩
  | .local _ .vmem, ⟨7, _⟩ => ⟨S256x1, .i32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NearestRefIdeal.lean ====
abbrev S16x1024x64 : Shape := ⟨3, ![16, 1024, 64]⟩
abbrev S64x8192 : Shape := ⟨2, ![64, 8192]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩
abbrev S8192 : Shape := ⟨1, ![8192]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S64x8192, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x64, .f32⟩
  | .hbm, ⟨9, _⟩ => ⟨S16384x64, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S64x8192, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Lookup.lean ====
abbrev S16384x1 : Shape := ⟨2, ![16384, 1]⟩
abbrev S16x1024x64 : Shape := ⟨3, ![16, 1024, 64]⟩
abbrev S64x8192 : Shape := ⟨2, ![64, 8192]⟩
abbrev S16384x64 : Shape := ⟨2, ![16384, 64]⟩
abbrev S8192x64 : Shape := ⟨2, ![8192, 64]⟩
abbrev S16384 : Shape := ⟨1, ![16384]⟩
abbrev S1x1 : Shape := ⟨2, ![1, 1]⟩
abbrev S256x64 : Shape := ⟨2, ![256, 64]⟩
abbrev S1 : Shape := ⟨1, ![1]⟩
abbrev S1x64 : Shape := ⟨2, ![1, 64]⟩
abbrev S1x256x64 : Shape := ⟨3, ![1, 256, 64]⟩
abbrev S1x1x1 : Shape := ⟨3, ![1, 1, 1]⟩

abbrev nBuf : Space → Nat
  | .hbm => 7
  | .vmem => 7
  | .smem => 1
  | _ => 0

abbrev bufTy : (tb : Table) → Fin (tcTables nBuf tb) → BufTy
  | .hbm, ⟨0, _⟩ => ⟨S16384x1, .i32⟩
  | .hbm, ⟨1, _⟩ => ⟨S16x1024x64, .f32⟩
  | .hbm, ⟨2, _⟩ => ⟨S64x8192, .f32⟩
  | .hbm, ⟨3, _⟩ => ⟨S16384x64, .f32⟩
  | .hbm, ⟨4, _⟩ => ⟨S8192x64, .f32⟩
  | .hbm, ⟨5, _⟩ => ⟨S16384x64, .f32⟩
  | .hbm, ⟨6, _⟩ => ⟨S1x1, .f32⟩
  | .local _ .vmem, ⟨0, _⟩ => ⟨S256x64, .f32⟩
  | .local _ .vmem, ⟨1, _⟩ => ⟨S256x64, .f32⟩
  | .local _ .vmem, ⟨2, _⟩ => ⟨S8192x64, .f32⟩
  | .local _ .vmem, ⟨3, _⟩ => ⟨S256x64, .f32⟩
  | .local _ .vmem, ⟨4, _⟩ => ⟨S256x64, .f32⟩
  | .local _ .vmem, ⟨5, _⟩ => ⟨S1x1, .f32⟩
  | .local _ .vmem, ⟨6, _⟩ => ⟨S256x64, .f32⟩
  | .local _ .smem, ⟨0, _⟩ => ⟨S16384, .i32⟩
  | _, _ => ⟨S16384x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v3_0 : Ref sig .tc := ⟨.hbm, 5, rfl⟩
abbrev main_v3_1 : Ref sig .tc := ⟨.hbm, 6, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let v25 : BitVec 32 := Scalar.addi v0 arg7
  let v26 : Index := Scalar.indexCast v25
  ![v26.toNat]
def k0_off2 (v27 : BitVec 32) : Fin 2 → Nat :=
  let v28 : Index := Scalar.indexCast v27
  let c0_14 : Index := 0#32
  ![v28.toNat, 0]

def k0_chk1 (v27 : BitVec 32) : Prop :=
  (∀ a, (k0_off2 v27) a + S1x64.size a ≤ S8192x64.size a)
theorem k0_off2_inb : ∀ (v27 : BitVec 32) (k0_hw1 : k0_chk1 v27), ∀ a, (k0_off2 v27) a + S1x64.size a ≤ S8192x64.size a := fun v27 k0_hw1 => k0_hw1

def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let v31 : Index := Scalar.indexCast arg7
  let c0_15 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LookupRefIdeal.lean ====
abbrev S16384x1 : Shape := ⟨2, ![16384, 1]⟩
abbrev S16x1024x64 : Shape := ⟨3, ![16, 1024, 64]⟩
abbrev S64x8192 : Shape := ⟨2, ![64, 8192]⟩
abbrev S16x1024 : Shape := ⟨2, ![16, 1024]⟩
abbrev S8192x64 : Shape := ⟨2, ![8192, 64]⟩
abbrev S_ : Shape := ⟨0, ![]⟩
abbrev S16x1024x1 : Shape := ⟨3, ![16, 1024, 1]⟩
abbrev S1 : Shape := ⟨1, ![1]⟩
abbrev S1x1x1 : Shape := ⟨3, ![1, 1, 1]⟩
abbrev S16384x64 : Shape := ⟨2, ![16384, 64]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x1, .i32⟩
  | .hbm, ⟨1, _⟩ => ⟨S16x1024x64, .f32⟩
  | .hbm, ⟨2, _⟩ => ⟨S64x8192, .f32⟩
  | .hbm, ⟨3, _⟩ => ⟨S16x1024, .i32⟩
  | .hbm, ⟨4, _⟩ => ⟨S8192x64, .f32⟩
  | .hbm, ⟨5, _⟩ => ⟨S_, .i32⟩
  | .hbm, ⟨6, _⟩ => ⟨S16x1024, .i32⟩
  | .hbm, ⟨7, _⟩ => ⟨S16x1024, .i1⟩
  | .hbm, ⟨8, _⟩ => ⟨S_, .i32⟩
  | .hbm, ⟨9, _⟩ => ⟨S16x1024, .i32⟩
  | .hbm, ⟨10, _⟩ => ⟨S16x1024, .i32⟩
  | .hbm, ⟨11, _⟩ => ⟨S16x1024, .i32⟩
  | .hbm, ⟨12, _⟩ => ⟨S16x1024x1, .i32⟩
  | .hbm, ⟨13, _⟩ => ⟨S1, .i32⟩
  | .hbm, ⟨14, _⟩ => ⟨S_, .i32⟩
  | .hbm, ⟨15, _⟩ => ⟨S16x1024x1, .i32⟩
  | .hbm, ⟨16, _⟩ => ⟨S16x1024x1, .i1⟩
  | .hbm, ⟨17, _⟩ => ⟨S1x1x1, .i32⟩
  | .hbm, ⟨18, _⟩ => ⟨S16x1024x1, .i32⟩
  | .hbm, ⟨19, _⟩ => ⟨S16x1024x1, .i1⟩
  | .hbm, ⟨20, _⟩ => ⟨S16x1024x1, .i1⟩
  | .hbm, ⟨21, _⟩ => ⟨S_, .i1⟩
  | .hbm, ⟨22, _⟩ => ⟨S16x1024, .i1⟩
  | .hbm, ⟨23, _⟩ => ⟨S16x1024x64, .f32⟩
  | .hbm, ⟨24, _⟩ => ⟨S16x1024x64, .i1⟩
  | .hbm, ⟨25, _⟩ => ⟨S_, .f32⟩
  | .hbm, ⟨26, _⟩ => ⟨S16x1024x64, .f32⟩
  | .hbm, ⟨27, _⟩ => ⟨S16x1024x64, .f32⟩
  | .hbm, ⟨28, _⟩ => ⟨S16x1024x64, .f32⟩
  | .hbm, ⟨29, _⟩ => ⟨S16x1024x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x1024x64, .f32⟩
  | .hbm, ⟨35, _⟩ => ⟨S16x1024x64, .f32⟩
  | .hbm, ⟨36, _⟩ => ⟨S16384x64, .f32⟩
  | .hbm, ⟨37, _⟩ => ⟨S1x1, .f32⟩
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩

abbrev nD : Nat := 1
abbrev τ : Topo := Topo.v7x

variable {F : FTy → Type} [FloatOps F]
-- ==== KernelIdeal.lean ====
abbrev S16x1024x64 : Shape := ⟨3, ![16, 1024, 64]⟩
abbrev S64x8192 : Shape := ⟨2, ![64, 8192]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S8192x64 : Shape := ⟨2, ![8192, 64]⟩
abbrev S256x64 : Shape := ⟨2, ![256, 64]⟩
abbrev S256x1 : Shape := ⟨2, ![256, 1]⟩
abbrev S256x8192 : Shape := ⟨2, ![256, 8192]⟩
abbrev S256x4096 : Shape := ⟨2, ![256, 4096]⟩
abbrev S256 : Shape := ⟨1, ![256]⟩
abbrev S1x1 : Shape := ⟨2, ![1, 1]⟩
abbrev S1 : Shape := ⟨1, ![1]⟩
abbrev S1x64 : Shape := ⟨2, ![1, 64]⟩
abbrev S1x256x64 : Shape := ⟨3, ![1, 256, 64]⟩
abbrev S1x1x1 : Shape := ⟨3, ![1, 1, 1]⟩
abbrev S16x1024 : Shape := ⟨2, ![16, 1024]⟩

abbrev nBuf : Space → Nat
  | .hbm => 21
  | .vmem => 15
  | .smem => 1
  | _ => 0

abbrev bufTy : (tb : Table) → Fin (tcTables nBuf tb) → BufTy
  | .hbm, ⟨0, _⟩ => ⟨S16x1024x64, .f32⟩
  | .hbm, ⟨1, _⟩ => ⟨S64x8192, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S64x8192, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S64x8192, .bf16⟩
  | .hbm, ⟨12, _⟩ => ⟨S8192x64, .f32⟩
  | .hbm, ⟨13, _⟩ => ⟨S16384x1, .i32⟩
  | .hbm, ⟨14, _⟩ => ⟨S16384x64, .f32⟩
  | .hbm, ⟨15, _⟩ => ⟨S1x1, .f32⟩
  | .hbm, ⟨16, _⟩ => ⟨S16x1024x64, .f32⟩
  | .hbm, ⟨17, _⟩ => ⟨S16x1024, .i32⟩
  | .hbm, ⟨18, _⟩ => ⟨S_, .f32⟩
  | .hbm, ⟨19, _⟩ => ⟨S_, .f32⟩
  | .hbm, ⟨20, _⟩ => ⟨S1, .f32⟩
  | .local _ .vmem, ⟨0, _⟩ => ⟨S256x64, .f32⟩
  | .local _ .vmem, ⟨1, _⟩ => ⟨S256x64, .f32⟩
  | .local _ .vmem, ⟨2, _⟩ => ⟨S64x8192, .bf16⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S256x1, .i32⟩
  | .local _ .vmem, ⟨7, _⟩ => ⟨S256x1, .i32⟩
  | .local _ .vmem, ⟨8, _⟩ => ⟨S256x64, .f32⟩
  | .local _ .vmem, ⟨9, _⟩ => ⟨S256x64, .f32⟩
  | .local _ .vmem, ⟨10, _⟩ => ⟨S8192x64, .f32⟩
  | .local _ .vmem, ⟨11, _⟩ => ⟨S256x64, .f32⟩
  | .local _ .vmem, ⟨12, _⟩ => ⟨S256x64, .f32⟩
  | .local _ .vmem, ⟨13, _⟩ => ⟨S1x1, .f32⟩
  | .local _ .vmem, ⟨14, _⟩ => ⟨S256x64, .f32⟩
  | .local _ .smem, ⟨0, _⟩ => ⟨S16384, .i32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v11_0 : Ref sig .tc := ⟨.hbm, 14, rfl⟩
abbrev main_v11_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

abbrev pre1 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k1_off1 (i : grid1.Coords) (k1_t1 : Fin k1_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k1_t1
  let v25 : BitVec 32 := Scalar.addi v0 arg7
  let v26 : Index := Scalar.indexCast v25
  ![v26.toNat]
def k1_off2 (v27 : BitVec 32) : Fin 2 → Nat :=
  let v28 : Index := Scalar.indexCast v27
  let c0_14 : Index := 0#32
  ![v28.toNat, 0]

def k1_chk1 (v27 : BitVec 32) : Prop :=
  (∀ a, (k1_off2 v27) a + S1x64.size a ≤ S8192x64.size a)
theorem k1_off2_inb : ∀ (v27 : BitVec 32) (k1_hw1 : k1_chk1 v27), ∀ a, (k1_off2 v27) a + S1x64.size a ≤ S8192x64.size a := fun v27 k1_hw1 => k1_hw1

def k1_off3 (k1_t1 : Fin k1_t1_loop.trips) : Fin 2 → Nat :=
  let c0_i32 : BitVec 32 := 0#32
  let c1_i32 : BitVec 32 := 1#32
  let arg7 : BitVec 32 := Scf.iv c0_i32 c1_i32 k1_t1
  let v31 : Index := Scalar.indexCast arg7
  let c0_15 : Index := 0#32
  ![v31.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]
-- ==== ReferenceIdeal.lean ====
abbrev S16x1024x64 : Shape := ⟨3, ![16, 1024, 64]⟩
abbrev S64x8192 : Shape := ⟨2, ![64, 8192]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩
abbrev S8192 : Shape := ⟨1, ![8192]⟩
abbrev S1x8192 : Shape := ⟨2, ![1, 8192]⟩
abbrev S16x1024 : Shape := ⟨2, ![16, 1024]⟩
abbrev S8192x64 : Shape := ⟨2, ![8192, 64]⟩
abbrev S16x1024x1 : Shape := ⟨3, ![16, 1024, 1]⟩
abbrev S1 : Shape := ⟨1, ![1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S64x8192, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x64, .f32⟩
  | .hbm, ⟨9, _⟩ => ⟨S16384x64, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S64x8192, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16x1024, .i32⟩
  | .hbm, ⟨26, _⟩ => ⟨S8192x64, .f32⟩
  | .hbm, ⟨27, _⟩ => ⟨S_, .i32⟩
  | .hbm, ⟨28, _⟩ => ⟨S16x1024, .i32⟩
  | .hbm, ⟨29, _⟩ => ⟨S16x1024, .i1⟩
  | .hbm, ⟨30, _⟩ => ⟨S_, .i32⟩
  | .hbm, ⟨31, _⟩ => ⟨S16x1024, .i32⟩
  | .hbm, ⟨32, _⟩ => ⟨S16x1024, .i32⟩
  | .hbm, ⟨33, _⟩ => ⟨S16x1024, .i32⟩
  | .hbm, ⟨34, _⟩ => ⟨S16x1024x1, .i32⟩
  | .hbm, ⟨35, _⟩ => ⟨S1, .i32⟩
  | .hbm, ⟨36, _⟩ => ⟨S_, .i32⟩
  | .hbm, ⟨37, _⟩ => ⟨S16x1024x1, .i32⟩
  | .hbm, ⟨38, _⟩ => ⟨S16x1024x1, .i1⟩
  | .hbm, ⟨39, _⟩ => ⟨S1x1x1, .i32⟩
  | .hbm, ⟨40, _⟩ => ⟨S16x1024x1, .i32⟩
  | .hbm, ⟨41, _⟩ => ⟨S16x1024x1, .i1⟩
  | .hbm, ⟨42, _⟩ => ⟨S16x1024x1, .i1⟩
  | .hbm, ⟨43, _⟩ => ⟨S_, .i1⟩
  | .hbm, ⟨44, _⟩ => ⟨S16x1024, .i1⟩
  | .hbm, ⟨45, _⟩ => ⟨S16x1024x64, .f32⟩
  | .hbm, ⟨46, _⟩ => ⟨S16x1024x64, .i1⟩
  | .hbm, ⟨47, _⟩ => ⟨S_, .f32⟩
  | .hbm, ⟨48, _⟩ => ⟨S16x1024x64, .f32⟩
  | .hbm, ⟨49, _⟩ => ⟨S16x1024x64, .f32⟩
  | .hbm, ⟨50, _⟩ => ⟨S16x1024x64, .f32⟩
  | .hbm, ⟨51, _⟩ => ⟨S16x1024x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x1024x64, .f32⟩
  | .hbm, ⟨57, _⟩ => ⟨S16x1024x64, .f32⟩
  | .hbm, ⟨58, _⟩ => ⟨S_, .f32⟩
  | .hbm, ⟨59, _⟩ => ⟨S1, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩

abbrev nD : Nat := 1
abbrev τ : Topo := Topo.v7x

variable {F : FTy → Type} [FloatOps F]
-- ==== Proof.FirstMin.lean ====
/-
  The place of the first least value, read off the two programs that look for it.

  `IsFirst f k` says that `f` takes its least value at `k` and at no earlier place. There is exactly one such
  place. A fold that keeps the larger of two (value, place) pairs, the earlier one of two equal values, run over the
  negated values finds it (`foldl_pick`); so does the least of the places where `f` equals its minimum
  (`fold_places`); and the first place of a sequence is the first place of one of its halves (`IsFirst.left`,
  `IsFirst.right`).
-/
module

public import Idealize.ShloMosaic.PureOps.Ideal.Laws
public import Idealize.ShloMosaic.Lib.WordCmp

@[expose] public section

namespace FirstMin

open Idealize.ShloMosaic

/-- `f` takes its least value at `k`, and at no place before `k`. -/
def IsFirst {n : ℕ} (f : Fin n → EReal) (k : Fin n) : Prop := ∀ j, f k ≤ f j ∧ (f j = f k → k ≤ j)

theorem IsFirst.unique {n : ℕ} {f : Fin n → EReal} {k l : Fin n} (hk : IsFirst f k) (hl : IsFirst f l) : k = l := by
  have e : f k = f l := le_antisymm (hk l).1 (hl k).1
  exact le_antisymm ((hk l).2 e.symm) ((hl k).2 e)

theorem exists_isFirst {n : ℕ} (hn : 0 < n) (f : Fin n → EReal) : ∃ k, IsFirst f k := by
  obtain ⟨k0, -, h0⟩ := Finset.univ.exists_min_image f ⟨⟨0, hn⟩, Finset.mem_univ _⟩
  have hne : (Finset.univ.filter fun j => f j = f k0).Nonempty := ⟨k0, by simp⟩
  have hm := Finset.min'_mem _ hne
  rw [Finset.mem_filter] at hm
  refine ⟨Finset.min' _ hne, fun j => ⟨?_, fun e => Finset.min'_le _ _ ?_⟩⟩
  · rw [hm.2]; exact h0 j (Finset.mem_univ _)
  · rw [Finset.mem_filter]; exact ⟨Finset.mem_univ _, e.trans hm.2⟩

/-! ### The reference's fold -/

/-- Of two (value, place) pairs the one of the larger value, of two equal values the earlier place. -/
noncomputable def pick (a b : EReal × BitVec 32) : EReal × BitVec 32 :=
  (if b.1 < a.1 then a.1 else b.1, if b.1 < a.1 ∨ (a.1 = b.1 ∧ a.2.toInt < b.2.toInt) then a.2 else b.2)

/-- `p` is at least as good a pair as `q`. -/
def Beats (p q : EReal × BitVec 32) : Prop := q.1 ≤ p.1 ∧ (q.1 = p.1 → p.2.toInt ≤ q.2.toInt)

theorem Beats.refl (p : EReal × BitVec 32) : Beats p p := ⟨le_rfl, fun _ => le_rfl⟩

theorem Beats.trans {p q r : EReal × BitVec 32} (h : Beats p q) (h' : Beats q r) : Beats p r :=
  ⟨h'.1.trans h.1, fun e => by
    have e1 : r.1 = q.1 := le_antisymm h'.1 (e ▸ h.1)
    exact (h.2 (e1 ▸ e)).trans (h'.2 e1)⟩

theorem pick_spec (a b : EReal × BitVec 32) : (pick a b = a ∨ pick a b = b) ∧ Beats (pick a b) a ∧ Beats (pick a b) b := by
  obtain ⟨x, i⟩ := a
  obtain ⟨y, j⟩ := b
  rcases lt_trichotomy x y with h | rfl | h
  · have hp : pick (x, i) (y, j) = (y, j) := by simp [pick, not_lt.mpr h.le, h.ne]
    rw [hp]
    exact ⟨Or.inr rfl, ⟨h.le, fun e => absurd e h.ne⟩, Beats.refl _⟩
  · by_cases hij : i.toInt < j.toInt
    · have hp : pick (x, i) (x, j) = (x, i) := by simp [pick, hij]
      rw [hp]
      exact ⟨Or.inl rfl, Beats.refl _, ⟨le_rfl, fun _ => hij.le⟩⟩
    · have hp : pick (x, i) (x, j) = (x, j) := by simp [pick, hij]
      rw [hp]
      exact ⟨Or.inr rfl, ⟨le_rfl, fun _ => not_lt.mp hij⟩, Beats.refl _⟩
  · have hp : pick (x, i) (y, j) = (x, i) := by simp [pick, h]
    rw [hp]
    exact ⟨Or.inl rfl, Beats.refl _, ⟨h.le, fun e => absurd e h.ne⟩⟩

theorem foldl_pick_spec (l : List (EReal × BitVec 32)) (a : EReal × BitVec 32) :
    (l.foldl pick a = a ∨ l.foldl pick a ∈ l) ∧ Beats (l.foldl pick a) a ∧ ∀ p ∈ l, Beats (l.foldl pick a) p := by
  induction l generalizing a with
  | nil => exact ⟨Or.inl rfl, Beats.refl _, fun p hp => absurd hp List.not_mem_nil⟩
  | cons b l ih =>
    obtain ⟨hm, ha, hl⟩ := ih (pick a b)
    obtain ⟨pm, pa, pb⟩ := pick_spec a b
    rw [List.foldl_cons]
    refine ⟨?_, ha.trans pa, fun p hp => ?_⟩
    · rcases hm with hm | hm
      · rw [hm]
        rcases pm with e | e
        · exact Or.inl e
        · right; rw [e]; exact List.mem_cons_self
      · exact Or.inr (List.mem_cons_of_mem _ hm)
    · rcases List.mem_cons.mp hp with rfl | hp
      · exact ha.trans pb
      · exact hl p hp

/-- The fold over the pairs of negated values and places, in any order and from `(⊥, 0)`, ends at the first place of
    the least value. -/
theorem foldl_pick {n : ℕ} (hn : 0 < n) (hn' : n ≤ 2 ^ 31) (f : Fin n → EReal) (l : List (EReal × BitVec 32))
    (hl : ∀ p, p ∈ l ↔ ∃ k : Fin n, p = (-(f k), BitVec.ofNat 32 k.val)) :
    ∃ k, IsFirst f k ∧ (l.foldl pick (⊥, 0#32)).2 = BitVec.ofNat 32 k.val := by
  obtain ⟨hm, -, hb⟩ := foldl_pick_spec l (⊥, 0#32)
  have hi : ∀ j : Fin n, (BitVec.ofNat 32 j.val).toInt = (j.val : Int) := fun j =>
    WordCmp.toInt_ofNat_of_lt (by have := j.isLt; omega)
  have hbk : ∀ j : Fin n, Beats (l.foldl pick (⊥, 0#32)) (-(f j), BitVec.ofNat 32 j.val) := fun j => hb _ ((hl _).mpr ⟨j, rfl⟩)
  rcases hm with hm | hm
  · rw [hm] at hbk ⊢
    have ht : ∀ j, f j = ⊤ := fun j => by
      have := (hbk j).1
      simpa using this
    exact ⟨⟨0, hn⟩, fun j => ⟨by rw [ht, ht], fun _ => Nat.zero_le _⟩, rfl⟩
  · obtain ⟨k, hk⟩ := (hl _).mp hm
    rw [hk] at hbk ⊢
    refine ⟨k, fun j => ⟨EReal.neg_le_neg_iff.mp (hbk j).1, fun e => ?_⟩, rfl⟩
    have := (hbk j).2 (congrArg Neg.neg e)
    simp only [hi] at this
    exact_mod_cast this

/-! ### The kernel's minimum and its place -/

theorem fold_min_eq {n : ℕ} (f : Fin n → EReal) {k : Fin n} (hk : IsFirst f k) : Finset.univ.fold min ⊤ f = f k := by
  refine le_antisymm ?_ ?_
  · exact (Finset.fold_min_le _).mpr (Or.inr ⟨k, Finset.mem_univ _, le_rfl⟩)
  · exact (Finset.le_fold_min _).mpr ⟨le_top, fun j _ => (hk j).1⟩

/-- A fold of the signed minimum is at most every word it runs over, and is one of them or the start. -/
theorem fold_minsi_spec {ι : Type} [DecidableEq ι] (s : Finset ι) (g : ι → BitVec 32) (b : BitVec 32) :
    (s.fold IntOp.minsi b g = b ∨ ∃ i ∈ s, s.fold IntOp.minsi b g = g i)
      ∧ (s.fold IntOp.minsi b g).toInt ≤ b.toInt ∧ ∀ i ∈ s, (s.fold IntOp.minsi b g).toInt ≤ (g i).toInt := by
  induction s using Finset.induction_on with
  | empty => simp
  | insert a s ha ih =>
    rw [Finset.fold_insert ha]
    obtain ⟨hm, h0, hs⟩ := ih
    by_cases h : (g a).toInt < (s.fold IntOp.minsi b g).toInt
    · have e : IntOp.minsi (g a) (s.fold IntOp.minsi b g) = g a := by simp [IntOp.minsi, BitVec.slt, h]
      rw [e]
      refine ⟨Or.inr ⟨a, Finset.mem_insert_self _ _, rfl⟩, h.le.trans h0, fun i hi => ?_⟩
      rcases Finset.mem_insert.mp hi with rfl | hi
      · exact le_rfl
      · exact h.le.trans (hs i hi)
    · have e : IntOp.minsi (g a) (s.fold IntOp.minsi b g) = s.fold IntOp.minsi b g := by simp [IntOp.minsi, BitVec.slt, h]
      rw [e]
      refine ⟨?_, h0, fun i hi => ?_⟩
      · rcases hm with hm | ⟨i, hi, e⟩
        · exact Or.inl hm
        · exact Or.inr ⟨i, Finset.mem_insert_of_mem hi, e⟩
      · rcases Finset.mem_insert.mp hi with rfl | hi
        · exact not_lt.mp h
        · exact hs i hi

/-- The least of the places where `f` equals its first least value, the other places counted as `big`, is that first
    place. -/
theorem fold_places {n : ℕ} (hn : n ≤ 2 ^ 31) (f : Fin n → EReal) {k : Fin n} (hk : IsFirst f k) (big : BitVec 32)
    (hbig : (n : Int) ≤ big.toInt) (g : Fin n → BitVec 32)
    (hg : ∀ j, g j = if f j = f k then BitVec.ofNat 32 j.val else big) :
    Finset.univ.fold IntOp.minsi 2147483647#32 g = BitVec.ofNat 32 k.val := by
  obtain ⟨hm, -, hs⟩ := fold_minsi_spec Finset.univ g 2147483647#32
  have hi : ∀ j : Fin n, (BitVec.ofNat 32 j.val).toInt = (j.val : Int) := fun j =>
    WordCmp.toInt_ofNat_of_lt (by have := j.isLt; omega)
  have hgk : g k = BitVec.ofNat 32 k.val := by rw [hg, if_pos rfl]
  have hle := hs k (Finset.mem_univ _)
  rw [hgk, hi] at hle
  have hkn : (k.val : Int) < n := by exact_mod_cast k.isLt
  refine BitVec.eq_of_toInt_eq ?_
  rw [hi]
  refine le_antisymm hle ?_
  rcases hm with hm | ⟨j, -, hm⟩
  · rw [hm]
    have : (2147483647#32).toInt = 2147483647 := by decide
    have := k.isLt
    omega
  · rw [hm, hg]
    split
    · rename_i e
      rw [hi]
      exact_mod_cast (hk j).2 e
    · omega

/-! ### Two halves -/

/-- Where the left half's least value is at most the right half's, the whole's first place is the left half's. -/
theorem IsFirst.left {n : ℕ} {f : Fin (n + n) → EReal} {k l : Fin n} (hk : IsFirst (fun j => f (Fin.castAdd n j)) k)
    (hl : IsFirst (fun j => f (Fin.natAdd n j)) l) (h : f (Fin.castAdd n k) ≤ f (Fin.natAdd n l)) :
    IsFirst f (Fin.castAdd n k) := by
  intro j
  refine Fin.addCases (fun j => ?_) (fun j => ?_) j
  · exact ⟨(hk j).1, fun e => (hk j).2 e⟩
  · exact ⟨h.trans (hl j).1, fun _ => by
      rw [Fin.le_def]; simp only [Fin.val_castAdd, Fin.val_natAdd]; have := k.isLt; omega⟩

/-- Otherwise it is the right half's. -/
theorem IsFirst.right {n : ℕ} {f : Fin (n + n) → EReal} {k l : Fin n} (hk : IsFirst (fun j => f (Fin.castAdd n j)) k)
    (hl : IsFirst (fun j => f (Fin.natAdd n j)) l) (h : ¬ f (Fin.castAdd n k) ≤ f (Fin.natAdd n l)) :
    IsFirst f (Fin.natAdd n l) := by
  intro j
  refine Fin.addCases (fun j => ?_) (fun j => ?_) j
  · have hlt : f (Fin.natAdd n l) < f (Fin.castAdd n j) := (not_le.mp h).trans_le (hk j).1
    exact ⟨hlt.le, fun e => absurd e hlt.ne'⟩
  · refine ⟨(hl j).1, fun e => ?_⟩
    have := (hl j).2 e
    rw [Fin.le_def] at this ⊢
    simp only [Fin.val_natAdd]; omega

/-! ### The first place as a word -/

/-- The place itself, as a 32-bit word. -/
noncomputable def place {n : ℕ} (hn : 0 < n) (f : Fin n → EReal) : BitVec 32 :=
  BitVec.ofNat 32 (exists_isFirst hn f).choose.val

theorem IsFirst.place_eq {n : ℕ} (hn : 0 < n) {f : Fin n → EReal} {k : Fin n} (hk : IsFirst f k) :
    place hn f = BitVec.ofNat 32 k.val := by
  rw [place, (exists_isFirst hn f).choose_spec.unique hk]

end FirstMin
-- ==== Proof.NearestBlock.lean ====
/-
  What one grid point of the first call computes: for each row of its block the first column of the least distance.

  The block's payload (`Gen.k0_pay1`) forms the distances of its 256 rows from the 8192 columns, takes the least of each
  half of the columns and the least column number where it is attained, and keeps the left half's unless the right
  half's least distance is smaller. So at row `r` it is the first place (`FirstMin.IsFirst`) of the row of distances
  `blockDist`.
-/
module

public import proofs.«01_k».proof.Proof.FirstMin
public import proofs.«01_k».proof.Proof.Gen.NearestIdeal.Skeleton
public import Idealize.ShloMosaic.Lib.ValueIdx
public import Idealize.ShloMosaic.Lib.ValueIdxCoords
public import Idealize.ShloMosaic.Lib.ValueLayoutCasts
public import Idealize.ShloMosaic.Lib.Pipeline.Value
public import Idealize.ShloMosaic.Lib.MatmulPlain

@[expose] public section

namespace NearestBlock

open Idealize.ShloMosaic Idealize.ShloMosaic.ValueIdx Cert.NearestIdeal Cert.NearestIdeal.Gen FirstMin
open scoped BigOperators

/-- The distances of the rows of `x` from the columns of `e`, less what does not matter: `(s1 − 2 x·e) + s2`. -/
noncomputable def dist {R C : ℕ} (x : (⟨2, ![R, 64]⟩ : Shape).Idx → EReal) (e : (⟨2, ![64, C]⟩ : Shape).Idx → EReal)
    (s1 : (⟨2, ![R, 1]⟩ : Shape).Idx → EReal) (s2 : (⟨2, ![1, C]⟩ : Shape).Idx → EReal) (r : Fin R) (k : Fin C) : EReal :=
  (s1 (ix2 r 0) - ∑ c : Fin 64, (x (ix2 r c) * Ideal.ofBits .f32 0x40000000#32) * e (ix2 c k)) + s2 (ix2 0 k)

/-! ### The reductions along a row -/

theorem lift_row {R C : ℕ} (h : Shape.Reduces ⟨2, ![R, C]⟩ [1] ⟨1, ![R]⟩) (r : Fin R) (k : Fin C) :
    h.lift (ix1 r) k = ix2 r k := by
  funext a; apply Fin.ext
  match a with
  | ⟨0, _⟩ => rfl
  | ⟨1, _⟩ => rfl

/-- A column spread over the columns, and a row spread over the rows. -/
theorem broadcast_col {α : Type} {R C : ℕ} (v : (⟨2, ![R, 1]⟩ : Shape).Idx → α) (h : (⟨2, ![R, 1]⟩ : Shape).Broadcasts ⟨2, ![R, C]⟩)
    (hR : R ≠ 1) (r : Fin R) (k : Fin C) : broadcastTo ⟨2, ![R, C]⟩ v h (ix2 r k) = v (ix2 r 0) :=
  broadcastTo_apply v h (ix2 r k) (ix2 r 0) fun a => by
    match a with
    | ⟨0, _⟩ => exact (if_neg hR).symm
    | ⟨1, _⟩ => rfl

theorem broadcast_row {α : Type} {R C : ℕ} (v : (⟨2, ![1, C]⟩ : Shape).Idx → α) (h : (⟨2, ![1, C]⟩ : Shape).Broadcasts ⟨2, ![R, C]⟩)
    (hC : C ≠ 1) (r : Fin R) (k : Fin C) : broadcastTo ⟨2, ![R, C]⟩ v h (ix2 r k) = v (ix2 0 k) :=
  broadcastTo_apply v h (ix2 r k) (ix2 0 k) fun a => by
    match a with
    | ⟨0, _⟩ => rfl
    | ⟨1, _⟩ => exact (if_neg hC).symm

theorem ofBits_inf : Ideal.ofBits .f32 0x7F800000#32 = ⊤ := by
  simp [Ideal.ofBits, Ideal.ieee]

/-- A row's minimum is the row's value at its first least place. -/
theorem row_min {R C : ℕ} (v : FVec Ideal ⟨2, ![R, C]⟩ .f32) (h : Shape.Reduces ⟨2, ![R, C]⟩ [1] ⟨1, ![R]⟩)
    (hφ : FKind.Formats .f32) (hacc : (0x7F800000#32 : BitVec 32) = FKind.minimumf.neutral .f32 hφ) (r : Fin R) {k : Fin C}
    (hk : IsFirst (fun j => v (ix2 r j)) k) :
    multiReduction .minimumf [1] ⟨1, ![R]⟩ v 0x7F800000#32 h hφ hacc (ix1 r) = v (ix2 r k) := by
  rw [multiReduction_minimumf_eq_fold]
  refine (h.fold_filter_drop_single (α := EReal) (min : EReal → EReal → EReal) (Ideal.ofBits .f32 0x7F800000#32) v (ix1 r)).trans ?_
  rw [ofBits_inf]
  have e : (v ∘ h.lift (ix1 r)) = fun j : Fin C => v (ix2 r j) := funext fun j => congrArg v (lift_row h r j)
  rw [e]
  exact fold_min_eq _ hk

/-- The least column number where a row equals its minimum is that place. -/
theorem row_place {R C : ℕ} (hC : C ≤ 2 ^ 31) (v : FVec Ideal ⟨2, ![R, C]⟩ .f32) (w : IVec ⟨2, ![R, C]⟩ 32)
    (h : Shape.Reduces ⟨2, ![R, C]⟩ [1] ⟨1, ![R]⟩) (hacc : (2147483647#32 : BitVec 32) = IKind.minsi.neutral) (r : Fin R) {k : Fin C}
    (hk : IsFirst (fun j => v (ix2 r j)) k) (big : BitVec 32) (hbig : (C : Int) ≤ big.toInt)
    (hw : ∀ j : Fin C, w (ix2 r j) = if v (ix2 r j) = v (ix2 r k) then BitVec.ofNat 32 j.val else big) :
    multiReductionI .minsi [1] ⟨1, ![R]⟩ w 2147483647#32 h hacc (ix1 r) = BitVec.ofNat 32 k.val := by
  rw [multiReductionI_eq_fold]
  refine (h.fold_filter_drop_single IntOp.minsi 2147483647#32 w (ix1 r)).trans ?_
  have e : (w ∘ h.lift (ix1 r)) = fun j : Fin C => w (ix2 r j) := funext fun j => congrArg w (lift_row h r j)
  rw [e]
  exact fold_places hC (fun j => v (ix2 r j)) hk big hbig _ hw

/-! ### The payload -/

variable (x : Vec Ideal S256x64 .f32) (e : Vec Ideal S64x8192 .bf16) (s1 : Vec Ideal S256x1 .f32) (s2 : Vec Ideal S1x8192 .f32)

/-- The block's distances as the payload computes them. -/
noncomputable def blockDist : FVec Ideal S256x8192 .f32 :=
  addf (subf (broadcastTo S256x8192 s1 broadcasts_S256x1_S256x8192)
      (matmul (φ₁ := .bf16) (φ₂ := .bf16) dot_S256x64_S64x8192_S256x8192_1_0_0_1_n_n none
        (truncf .bf16 (mulf x (broadcast S256x64 (Scalar.ofBits .f32 0x40000000#32))) bitsLt_bf16_f32) e
        (constant S256x8192 .f32 0x00000000#32)))
    (broadcastTo S256x8192 s2 broadcasts_S1x8192_S256x8192)

theorem blockDist_apply (r : Fin 256) (k : Fin 8192) : blockDist x e s1 s2 (ix2 r k) = dist x e s1 s2 r k := by
  unfold blockDist
  rw [addf_apply, subf_apply]
  refine congrArg₂ (· + ·) (congrArg₂ (· - ·) ?_ ?_) ?_
  · exact broadcast_col s1 _ (by decide) r k
  · refine (Ideal.matmul_plain_apply (M := 256) (K := 64) (N := 8192) none _ _ _ r k).trans ?_
    show Ideal.ofBits .f32 0x00000000#32 + _ = _
    rw [Ideal.ofBits_zero_f32, zero_add]
    rfl
  · exact broadcast_row s2 _ (by decide) r k

/-- The two halves of the columns. -/
noncomputable def half0 (d : FVec Ideal S256x8192 .f32) : FVec Ideal S256x4096 .f32 :=
  extractStridedSlice S256x4096 ![0, 0] d slices_S256x8192_o0_0_S256x4096
noncomputable def half1 (d : FVec Ideal S256x8192 .f32) : FVec Ideal S256x4096 .f32 :=
  extractStridedSlice S256x4096 ![0, 4096] d slices_S256x8192_o0_4096_S256x4096

theorem half0_apply (d : FVec Ideal S256x8192 .f32) (r : Fin 256) (j : Fin 4096) :
    half0 d (ix2 r j) = d (ix2 r (Fin.castAdd 4096 j)) := by
  refine congrArg d (funext fun a => Fin.ext ?_)
  match a with
  | ⟨0, _⟩ => exact Nat.zero_add _
  | ⟨1, _⟩ => exact Nat.zero_add _

theorem half1_apply (d : FVec Ideal S256x8192 .f32) (r : Fin 256) (j : Fin 4096) :
    half1 d (ix2 r j) = d (ix2 r (Fin.natAdd 4096 j)) := by
  refine congrArg d (funext fun a => Fin.ext ?_)
  match a with
  | ⟨0, _⟩ => exact Nat.zero_add _
  | ⟨1, _⟩ => rfl

/-- A half's row minima. -/
noncomputable def mins (h : FVec Ideal S256x4096 .f32) : FVec Ideal S256 .f32 :=
  multiReduction .minimumf [1] S256 h 0x7F800000#32 reduces_S256x4096_S256 (.inl rfl) rfl

/-- The least column number where each row of a half equals its minimum. -/
noncomputable def places (h : FVec Ideal S256x4096 .f32) : IVec S256 32 :=
  multiReductionI .minsi [1] S256
    (select (cmpf .oeq h (broadcastTo S256x4096 (shapeCast S256x1 (mins h) shapeCasts_S256_S256x1) broadcasts_S256x1_S256x4096))
      (iota .tc S256x4096 32 [1] iota_S256x4096_d1_w32) (broadcast S256x4096 8192#32))
    2147483647#32 reduces_S256x4096_S256 rfl

theorem mins_apply (h : FVec Ideal S256x4096 .f32) (r : Fin 256) {k : Fin 4096} (hk : IsFirst (fun j => h (ix2 r j)) k) :
    mins h (ix1 r) = h (ix2 r k) :=
  row_min h reduces_S256x4096_S256 _ _ r hk

theorem places_apply (h : FVec Ideal S256x4096 .f32) (r : Fin 256) {k : Fin 4096} (hk : IsFirst (fun j => h (ix2 r j)) k) :
    places h (ix1 r) = BitVec.ofNat 32 k.val := by
  refine row_place (by decide) h _ reduces_S256x4096_S256 rfl r hk 8192#32 (by decide) fun j => ?_
  have hm : broadcastTo S256x4096 (shapeCast S256x1 (mins h) shapeCasts_S256_S256x1) broadcasts_S256x1_S256x4096 (ix2 r j)
      = h (ix2 r k) := by
    refine Eq.trans ?_ (mins_apply h r hk)
    refine Eq.trans ?_ (shapeCast_a_a1_apply (mins h) shapeCasts_S256_S256x1 r 0)
    exact broadcast_col _ _ (by decide) r j
  have hi : iota .tc S256x4096 32 [1] iota_S256x4096_d1_w32 (ix2 r j) = BitVec.ofNat 32 j.val := by
    rw [WordCmp.iota_at]; simp
  rw [select_apply, cmpf_apply, hm, hi, broadcast_apply]
  show Scalar.select (BitVec.ofBool (decide (h (ix2 r j) = h (ix2 r k)))) _ _ = _
  rw [WordCmp.select_decide]

theorem pay_eq : k0_pay1 (F := Ideal) x e s1 s2
    = select (cmpf .ole (extf .f32 (truncf .bf16 (shapeCast S256x1 (mins (half0 (blockDist x e s1 s2))) shapeCasts_S256_S256x1) bitsLt_bf16_f32) bitsLt_bf16_f32)
          (shapeCast S256x1 (mins (half1 (blockDist x e s1 s2))) shapeCasts_S256_S256x1))
        (shapeCast S256x1 (places (half0 (blockDist x e s1 s2))) shapeCasts_S256_S256x1)
        (addi (shapeCast S256x1 (places (half1 (blockDist x e s1 s2))) shapeCasts_S256_S256x1) (broadcast S256x1 4096#32)) := by
  unfold k0_pay1 places mins half0 half1 blockDist
  simp only [shapeCast_self]

/-- At row `r` the payload is the first column of the least distance. -/
theorem pay_apply (r : Fin 256) :
    ∃ k : Fin 8192, IsFirst (dist x e s1 s2 r) k ∧ k0_pay1 (F := Ideal) x e s1 s2 (ix2 r 0) = BitVec.ofNat 32 k.val := by
  rw [pay_eq]
  generalize hd : blockDist x e s1 s2 = d
  have hdd : ∀ k, d (ix2 r k) = dist x e s1 s2 r k := fun k => by rw [← hd]; exact blockDist_apply x e s1 s2 r k
  have hdf : (fun k => d (ix2 r k)) = dist x e s1 s2 r := funext hdd
  rw [← hdf]
  obtain ⟨k, hk⟩ := exists_isFirst (by decide) (fun j => half0 d (ix2 r j))
  obtain ⟨l, hl⟩ := exists_isFirst (by decide) (fun j => half1 d (ix2 r j))
  have e0 := mins_apply _ r hk
  have e1 := mins_apply _ r hl
  have p0 := places_apply _ r hk
  have p1 := places_apply _ r hl
  have hk' : IsFirst (fun j : Fin 4096 => (fun k : Fin (4096 + 4096) => d (ix2 r k)) (Fin.castAdd 4096 j)) k := by
    simpa only [half0_apply] using hk
  have hl' : IsFirst (fun j : Fin 4096 => (fun k : Fin (4096 + 4096) => d (ix2 r k)) (Fin.natAdd 4096 j)) l := by
    simpa only [half1_apply] using hl
  rw [half0_apply] at e0
  rw [half1_apply] at e1
  rw [select_apply, cmpf_apply, extf_apply, truncf_apply,
    shapeCast_a_a1_apply (mins (half0 d)) shapeCasts_S256_S256x1 r 0, shapeCast_a_a1_apply (mins (half1 d)) shapeCasts_S256_S256x1 r 0,
    shapeCast_a_a1_apply (places (half0 d)) shapeCasts_S256_S256x1 r 0, e0, e1, p0]
  have ha : addi (shapeCast S256x1 (places (half1 d)) shapeCasts_S256_S256x1) (broadcast S256x1 4096#32) (ix2 r 0)
      = BitVec.ofNat 32 (4096 + l.val) := by
    refine (congrArg (IntOp.addi · 4096#32) ((shapeCast_a_a1_apply (places (half1 d)) shapeCasts_S256_S256x1 r 0).trans p1)).trans ?_
    refine (WordCmp.addi_ofNat l.val 4096).trans ?_
    rw [Nat.add_comm]
  rw [ha]
  show ∃ k', _ ∧ Scalar.select (BitVec.ofBool (decide (d (ix2 r (Fin.castAdd 4096 k)) ≤ d (ix2 r (Fin.natAdd 4096 l))))) _ _ = _
  rw [WordCmp.select_decide]
  by_cases hle : d (ix2 r (Fin.castAdd 4096 k)) ≤ d (ix2 r (Fin.natAdd 4096 l))
  · have A := IsFirst.left (n := 4096) (f := fun k => d (ix2 r k)) hk' hl' hle
    exact ⟨Fin.castAdd 4096 k, A, by rw [if_pos hle]; rfl⟩
  · have A := IsFirst.right (n := 4096) (f := fun k => d (ix2 r k)) hk' hl' hle
    exact ⟨Fin.natAdd 4096 l, A, by rw [if_neg hle]; rfl⟩

end NearestBlock
-- ==== Proof.NearestSpec.lean ====
/-
  The nearest column, as a function of the two arrays.

  `nearest X E` gives for each row of `X` the number of the first column of `E` at the least squared distance from it,
  the distance being written `(Σ x² − Σ 2 x e) + Σ e²` as both programs write it.
-/
module

public import proofs.«01_k».proof.Proof.NearestBlock
public import Idealize.ShloMosaic.Lib.Pointwise.Reduce
public import Idealize.ShloMosaic.Lib.IdealHost

@[expose] public section

namespace NearestSpec

open Idealize.ShloMosaic hiding ix0 ix1 ix2
open Idealize.ShloMosaic.ValueIdx FirstMin
open scoped BigOperators

/-- The squared distance of row `i` of `X` from column `k` of `E`. -/
noncomputable def sqDist (X : (⟨2, ![16384, 64]⟩ : Shape).Idx → EReal) (E : (⟨2, ![64, 8192]⟩ : Shape).Idx → EReal)
    (i : Fin 16384) (k : Fin 8192) : EReal :=
  ((∑ c : Fin 64, X (ix2 i c) * X (ix2 i c)) - ∑ c : Fin 64, (X (ix2 i c) * Ideal.ofBits .f32 0x40000000#32) * E (ix2 c k))
    + ∑ c : Fin 64, E (ix2 c k) * E (ix2 c k)

/-- For each row the first column at the least distance, as a column of words. -/
noncomputable def nearest (X : (⟨2, ![16384, 64]⟩ : Shape).Idx → EReal) (E : (⟨2, ![64, 8192]⟩ : Shape).Idx → EReal) :
    (⟨2, ![16384, 1]⟩ : Shape).Idx → BitVec 32 :=
  fun i => place (by norm_num : 0 < 8192) (sqDist X E (i 0))

/-- A nearest column is a column. -/
theorem nearest_toNat_lt (X : (⟨2, ![16384, 64]⟩ : Shape).Idx → EReal) (E : (⟨2, ![64, 8192]⟩ : Shape).Idx → EReal) (y) :
    (nearest X E y).toNat < 8192 := by
  obtain ⟨k, hk⟩ := exists_isFirst (by norm_num : 0 < 8192) (sqDist X E (y 0))
  have e : nearest X E y = BitVec.ofNat 32 k.val := hk.place_eq _
  rw [e, BitVec.toNat_ofNat]
  have := k.isLt
  omega

/-- One block's payload is the block's rows of `nearest`, if what the block holds is the array's. -/
theorem pay_nearest (X : (⟨2, ![16384, 64]⟩ : Shape).Idx → EReal) (E : (⟨2, ![64, 8192]⟩ : Shape).Idx → EReal)
    (x : (⟨2, ![256, 64]⟩ : Shape).Idx → EReal) (e : (⟨2, ![64, 8192]⟩ : Shape).Idx → EReal)
    (s1 : (⟨2, ![256, 1]⟩ : Shape).Idx → EReal) (s2 : (⟨2, ![1, 8192]⟩ : Shape).Idx → EReal)
    (r : Fin 256) (i : Fin 16384) (hx : ∀ c, x (ix2 r c) = X (ix2 i c)) (he : ∀ c k, e (ix2 c k) = E (ix2 c k))
    (h1 : s1 (ix2 r 0) = ∑ c : Fin 64, X (ix2 i c) * X (ix2 i c))
    (h2 : ∀ k, s2 (ix2 0 k) = ∑ c : Fin 64, E (ix2 c k) * E (ix2 c k)) :
    Cert.NearestIdeal.Gen.k0_pay1 (F := Ideal) x e s1 s2 (ix2 r 0) = place (by norm_num : 0 < 8192) (sqDist X E i) := by
  obtain ⟨k, hk, e'⟩ := NearestBlock.pay_apply x e s1 s2 r
  have hd : NearestBlock.dist x e s1 s2 r = sqDist X E i := by
    funext k; simp only [NearestBlock.dist, sqDist, hx, he, h1, h2]
  rw [hd] at hk
  rw [e', hk.place_eq]

/-! ### The host's sums of squares -/

/-- The squares of each row, summed by the host: at row `i` the sum over the row. -/
theorem sum_sq_row (A : (⟨2, ![16384, 64]⟩ : Shape).Idx → EReal) (h : (⟨2, ![16384, 64]⟩ : Shape).ReducesTo [1] ⟨1, ![16384]⟩)
    (hu : 0 < (⟨0, ![]⟩ : Shape).numel) (i : Fin 16384) :
    (Host.reduceAdd (F := Ideal) (φ := .f32) (mulf (F := Ideal) (φ := .f32) A A) (constant (F := Ideal) ⟨0, ![]⟩ .f32 0#32) h hu : _ → EReal) (ix1 i)
      = ∑ k : Fin 64, A (ix2 i k) * A (ix2 i k) := by
  rw [hostReduceAdd_apply, Ideal.hostReduceAdd_r2_a1]
  show Ideal.ofBits .f32 0#32 + _ = _
  rw [Ideal.ofBits_zero_f32, zero_add]
  rfl

/-- The squares of each column, summed by the host: at column `k` the sum down the column. -/
theorem sum_sq_col (B : (⟨2, ![64, 8192]⟩ : Shape).Idx → EReal) (h : (⟨2, ![64, 8192]⟩ : Shape).ReducesTo [0] ⟨1, ![8192]⟩)
    (hu : 0 < (⟨0, ![]⟩ : Shape).numel) (k : Fin 8192) :
    (Host.reduceAdd (F := Ideal) (φ := .f32) (mulf (F := Ideal) (φ := .f32) B B) (constant (F := Ideal) ⟨0, ![]⟩ .f32 0#32) h hu : _ → EReal) (ix1 k)
      = ∑ j : Fin 64, B (ix2 j k) * B (ix2 j k) := by
  rw [hostReduceAdd_apply, Ideal.hostReduceAdd_r2_a0]
  show Ideal.ofBits .f32 0#32 + _ = _
  rw [Ideal.ofBits_zero_f32, zero_add]
  rfl

end NearestSpec
-- ==== Proof.NearestValue.lean ====
/-
  What the first call leaves in its result: the array `nearest` of its arguments.

  Grid point `t` writes rows `256 t … 256 t + 255`; what it writes is `NearestSpec.pay_nearest` of its blocks, and the
  host's squares, summed, are read at an index.
-/
module

public import proofs.«01_k».proof.Proof.NearestSpec
public import proofs.«01_k».proof.Proof.Gen.NearestIdeal.Value
public import Idealize.ShloMosaic.Lib.Pointwise.Reduce
public import Idealize.ShloMosaic.Lib.Pipeline.ValueKit.Geometry
public import Idealize.ShloMosaic.Lib.Pipeline.ValueKit
public import Idealize.ShloMosaic.Lib.StableHlo.ReadAt
public import Idealize.ShloMosaic.Lib.IdealHost

@[expose] public section

namespace NearestValue

open Idealize.ShloMosaic hiding ix0 ix1 ix2
open Idealize.ShloMosaic.TcCoe Idealize.ShloMosaic.ValueIdx Idealize.SL.Sem
open Cert.NearestIdeal Cert.NearestIdeal.Gen NearestSpec
open scoped BigOperators

variable (m : (ℓ : Loc nD τ sig) → Buf (Elt Ideal) ℓ) (ρ : Dev nD → PrngReg)

/-- The rows: the first argument with its leading axes merged. -/
noncomputable abbrev rows (c : Dev nD) : (⟨2, ![16384, 64]⟩ : Shape).Idx → EReal :=
  shapeCast S16384x64 (m ((c : Thread nD τ).loc main_arg0)) shapeCasts_S16x1024x64_S16384x64

/-- The columns: the second argument. -/
noncomputable abbrev cols (c : Dev nD) : (⟨2, ![64, 8192]⟩ : Shape).Idx → EReal := m ((c : Thread nD τ).loc main_arg1)

theorem V_rows (c : Dev nD) : V m c main_v0 = rows m c := by
  unfold V; after_reads_simp; rfl

theorem V_cols (c : Dev nD) : V m c main_v7 = cols m c := by
  unfold V; after_reads_simp; rfl

theorem V_sq_rows (c : Dev nD) (i : Fin 16384) :
    V m c main_v3 (ix2 i 0) = ∑ k : Fin 64, rows m c (ix2 i k) * rows m c (ix2 i k) := by
  unfold V
  after_reads_simp
  exact (broadcastInDim_apply _ _ _ (ix2 i 0) (ix1 i) (fun a => by match a with | ⟨0, _⟩ => rfl)).trans (sum_sq_row _ _ _ i)

theorem V_sq_cols (c : Dev nD) (k : Fin 8192) :
    V m c main_v6 (ix2 0 k) = ∑ j : Fin 64, cols m c (ix2 j k) * cols m c (ix2 j k) := by
  unfold V
  after_reads_simp
  exact (broadcastInDim_apply _ _ _ (ix2 0 k) (ix1 k) (fun a => by match a with | ⟨0, _⟩ => rfl)).trans (sum_sq_col _ _ _ k)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])

/-! ### The blocks of a point, read at an index -/

theorem block_rows (c : Dev nD) (t : Fin cfg0.N) (r : Fin 256) (k : Fin 64) (i : Fin 16384) (hi : i.val = t.val * 256 + r.val) :
    iblk m c 0 t (ix2 r k) = V m c main_v0 (ix2 i k) := by
  show V m c main_v0 ((win0_0.blk t).view.emb (ix2 r k)) = _
  refine congrArg _ (funext fun a => Fin.ext ?_)
  match a with
  | ⟨0, _⟩ => blk_simp [index0]; exact hi.symm
  | ⟨1, _⟩ => blk_simp [index0]

theorem block_cols (c : Dev nD) (t : Fin cfg0.N) (j : Fin 64) (k : Fin 8192) :
    iblk m c 1 t (ix2 j k) = V m c main_v7 (ix2 j k) := by
  show V m c main_v7 ((win0_1.blk t).view.emb (ix2 j k)) = _
  refine congrArg _ (funext fun a => Fin.ext ?_)
  match a with
  | ⟨0, _⟩ => blk_simp [index1]
  | ⟨1, _⟩ => blk_simp [index1]

theorem block_sq_rows (c : Dev nD) (t : Fin cfg0.N) (r : Fin 256) (i : Fin 16384) (hi : i.val = t.val * 256 + r.val) :
    iblk m c 2 t (ix2 r 0) = V m c main_v3 (ix2 i 0) := by
  show V m c main_v3 ((win0_2.blk t).view.emb (ix2 r 0)) = _
  refine congrArg _ (funext fun a => Fin.ext ?_)
  match a with
  | ⟨0, _⟩ => blk_simp [index2]; exact hi.symm
  | ⟨1, _⟩ => blk_simp [index2]

theorem block_sq_cols (c : Dev nD) (t : Fin cfg0.N) (k : Fin 8192) :
    iblk m c 3 t (ix2 0 k) = V m c main_v6 (ix2 0 k) := by
  show V m c main_v6 ((win0_3.blk t).view.emb (ix2 0 k)) = _
  refine congrArg _ (funext fun a => Fin.ext ?_)
  match a with
  | ⟨0, _⟩ => blk_simp [index3]
  | ⟨1, _⟩ => blk_simp [index3]

/-- The result array after the grid: every row's nearest column. -/
theorem out_eq (c : Dev nD) : (dats m 0 c).arrAt 4 cfg0.N = nearest (rows m c) (cols m c) := by
  refine (dats m 0 c).arrAt_eq_of_covers 4 _ (by decide +kernel) fun t hf y => ?_
  blk_simp
  rw [after0_4]
  unfold out0_4
  rw [View.canon_unit_zero (by funext a; fin_cases a <;> rfl), View.ld_unit_lit _ _ (by decide), View.ld_unit_lit _ _ (by decide),
    View.ld_unit_lit _ _ (by decide), View.ld_unit_lit _ _ (by decide)]
  have hr : (y 0 : ℕ) < 256 := (y 0).isLt
  have hc : (y 1 : ℕ) < 1 := (y 1).isLt
  have hy : y = (ix2 ⟨(y 0 : ℕ), hr⟩ 0 : (⟨2, ![256, 1]⟩ : Shape).Idx) := by
    funext a
    match a with
    | ⟨0, _⟩ => rfl
    | ⟨1, _⟩ => apply Fin.ext; show (y 1 : ℕ) = 0; omega
  have hi : ((((win0_4.blk t).view.emb y) 0 : Fin _) : ℕ) = t.val * 256 + (y 0 : ℕ) := by blk_simp [index4]
  generalize (win0_4.blk t).view.emb y = j at hi ⊢
  conv_lhs => rw [hy]
  exact pay_nearest (rows m c) (cols m c) _ _ _ _ ⟨(y 0 : ℕ), hr⟩ (j 0)
    (fun k => (block_rows m c t _ k (j 0) hi).trans (congrFun (V_rows m c) _))
    (fun k l => (block_cols m c t k l).trans (congrFun (V_cols m c) _))
    ((block_sq_rows m c t _ (j 0) hi).trans (V_sq_rows m c (j 0)))
    (fun l => (block_sq_cols m c t l).trans (V_sq_cols m c l))

/-- The run: the result is `nearest` of the arguments, and they stay. -/
theorem run : θ_run defs (onTc (τ := τ) (main (F := Ideal))) ⟨m, fun _ => 0, ρ⟩ fun r => ∀ c : Dev nD,
      r.2.mem ((c : Thread nD τ).loc main_v8) = nearest (rows m c) (cols m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (out_eq m c), (h c).2⟩) (Cert.NearestIdeal.Value.run_blocks m ρ)

end NearestValue
-- ==== Proof.NearestHost.lean ====
/-
  The host's text for the nearest column, read at a row.

  The reference forms the whole table of squared distances, negates it, and takes the place of the largest value of each
  row. Read at row `i` that is the first column at the least distance from row `i`, the word `nearest` holds there.
-/
module

public import proofs.«01_k».proof.Proof.NearestSpec
public import Idealize.ShloMosaic.Lib.StackMember

@[expose] public section

namespace NearestHost

open Idealize.ShloMosaic hiding ix0 ix1 ix2
open Idealize.ShloMosaic.ValueIdx FirstMin NearestSpec
open scoped BigOperators

theorem ofBits_neg_inf : Ideal.ofBits .f32 0xFF800000#32 = ⊥ := by
  simp [Ideal.ofBits, Ideal.ieee]

/-- What `argmax` keeps of two pairs, at the extended reals, where no value differs from itself. -/
theorem keep_larger (a b : EReal) (p q : BitVec 32) :
    ((Scalar.select (IntOp.ori (FloatOps.cmpf (F := Ideal) (φ := .f32) .ogt a b) (FloatOps.cmpf (F := Ideal) (φ := .f32) .une a a)) a b : EReal),
      Scalar.select (IntOp.ori (IntOp.ori (FloatOps.cmpf (F := Ideal) (φ := .f32) .ogt a b) (FloatOps.cmpf (F := Ideal) (φ := .f32) .une a a))
        (IntOp.andi (FloatOps.cmpf (F := Ideal) (φ := .f32) .oeq a b) (IntOp.cmpi .slt p q))) p q) = pick (a, p) (b, q) := by
  have hs : IntOp.cmpi .slt p q = BitVec.ofBool (decide (p.toInt < q.toInt)) := rfl
  simp only [Ideal.cmpf_def, Ideal.cmp, hs, pick]
  by_cases h1 : b < a <;> by_cases h2 : a = b <;> by_cases h3 : p.toInt < q.toInt <;>
    simp [h1, h2, h3, Scalar.select, IntOp.ori, IntOp.andi] <;> rfl

/-- The fiber of row `i` under the removal of the second axis. -/
theorem drop_iff (h : (⟨2, ![16384, 8192]⟩ : Shape).ReducesTo [1] ⟨1, ![16384]⟩) (i : Fin 16384)
    (q : (⟨2, ![16384, 8192]⟩ : Shape).Idx) : h.drop q = ix1 i ↔ ∃ k : Fin 8192, ix2 i k = q :=
  h.fiber_r2_a1 (ix1 i) q

/-- A row's fold that keeps the larger (value, place) pair, over negated values, ends at the first least place. -/
theorem arg_row (f : EReal × BitVec 32 → EReal × BitVec 32 → EReal × BitVec 32) (hf : f = pick)
    (d : (⟨2, ![16384, 8192]⟩ : Shape).Idx → EReal) (h : (⟨2, ![16384, 8192]⟩ : Shape).ReducesTo [1] ⟨1, ![16384]⟩)
    (hu : 0 < (⟨0, ![]⟩ : Shape).numel) (i : Fin 16384) :
    (Host.argReduce (F := Ideal) (φ := .f32) f (Host.negf (F := Ideal) (φ := .f32) d) (iotaInDim ⟨2, ![16384, 8192]⟩ 32 1)
      (constant (F := Ideal) ⟨0, ![]⟩ .f32 0xFF800000#32) (constantI ⟨0, ![]⟩ 32 0#32) h hu (ix1 i)).2
      = place (by norm_num : 0 < 8192) (fun k => d (ix2 i k)) := by
  rw [Ideal.argReduce_eq_reduce2, Host.reduce2_eq_foldl_fiber, hf]
  have h0 : ((constant (F := Ideal) ⟨0, ![]⟩ .f32 0xFF800000#32 (Shape.Idx.first hu) : EReal),
      constantI ⟨0, ![]⟩ 32 0#32 (Shape.Idx.first hu)) = ((⊥ : EReal), 0#32) :=
    Prod.ext ofBits_neg_inf rfl
  have hl : ∀ p, p ∈ Host.argReduceFiber (Host.negf (F := Ideal) (φ := .f32) d) (iotaInDim ⟨2, ![16384, 8192]⟩ 32 1) h (ix1 i)
      ↔ ∃ k : Fin 8192, p = ((-(d (ix2 i k)) : EReal), BitVec.ofNat 32 k.val) := fun p => by
    unfold Host.argReduceFiber
    simp only [List.mem_map, List.mem_filter, List.mem_finRange, true_and, decide_eq_true_eq]
    constructor
    · rintro ⟨n, hn, rfl⟩
      obtain ⟨k, hk⟩ := (drop_iff h i _).mp hn
      exact ⟨k, by rw [← hk]; rfl⟩
    · rintro ⟨k, rfl⟩
      refine ⟨(⟨2, ![16384, 8192]⟩ : Shape).rowMajor (ix2 i k), ?_, ?_⟩
      · rw [Equiv.symm_apply_apply]; exact (drop_iff h i _).mpr ⟨k, rfl⟩
      · rw [Equiv.symm_apply_apply]; rfl
  generalize Host.argReduceFiber (Host.negf (F := Ideal) (φ := .f32) d) (iotaInDim ⟨2, ![16384, 8192]⟩ 32 1) h (ix1 i) = l at hl ⊢
  obtain ⟨k, hk, e⟩ := foldl_pick (by norm_num : 0 < 8192) (by norm_num) (fun k => d (ix2 i k)) l hl
  rw [hk.place_eq]
  exact (congrArg (fun a => (List.foldl pick a l).2) h0).trans e

/-- The table of distances as the host writes it, at a row and a column. -/
theorem table_apply (X : (⟨2, ![16384, 64]⟩ : Shape).Idx → EReal) (E : (⟨2, ![64, 8192]⟩ : Shape).Idx → EReal)
    (h1 : (⟨2, ![16384, 64]⟩ : Shape).ReducesTo [1] ⟨1, ![16384]⟩) (h0 : (⟨2, ![64, 8192]⟩ : Shape).ReducesTo [0] ⟨1, ![8192]⟩)
    (hu : 0 < (⟨0, ![]⟩ : Shape).numel)
    (b1 : (⟨1, ![16384]⟩ : Shape).BroadcastsInDim ⟨2, ![16384, 1]⟩ ![0])
    (b2 : (⟨0, ![]⟩ : Shape).BroadcastsInDim ⟨2, ![16384, 64]⟩ ![])
    (b3 : (⟨2, ![16384, 1]⟩ : Shape).BroadcastsInDim ⟨2, ![16384, 8192]⟩ ![0, 1])
    (b4 : (⟨1, ![8192]⟩ : Shape).BroadcastsInDim ⟨2, ![1, 8192]⟩ ![1])
    (b5 : (⟨2, ![1, 8192]⟩ : Shape).BroadcastsInDim ⟨2, ![16384, 8192]⟩ ![0, 1]) (i : Fin 16384) (k : Fin 8192) :
    (addf (F := Ideal) (φ := .f32)
      (subf (F := Ideal) (φ := .f32)
        (broadcastInDim ⟨2, ![16384, 8192]⟩ ![0, 1] b3 (broadcastInDim ⟨2, ![16384, 1]⟩ ![0] b1
          (Host.reduceAdd (F := Ideal) (φ := .f32) (mulf (F := Ideal) (φ := .f32) X X) (constant (F := Ideal) ⟨0, ![]⟩ .f32 0#32) h1 hu)))
        (Host.dotGeneral (F := Ideal) (φ₁ := .f32) (φ₂ := .f32) (DotDims.plain 16384 64 8192) none
          (mulf (F := Ideal) (φ := .f32) (broadcastInDim ⟨2, ![16384, 64]⟩ ![] b2 (constant (F := Ideal) ⟨0, ![]⟩ .f32 0x40000000#32)) X) E))
      (broadcastInDim ⟨2, ![16384, 8192]⟩ ![0, 1] b5 (broadcastInDim ⟨2, ![1, 8192]⟩ ![1] b4
        (Host.reduceAdd (F := Ideal) (φ := .f32) (mulf (F := Ideal) (φ := .f32) E E) (constant (F := Ideal) ⟨0, ![]⟩ .f32 0#32) h0 hu))) : _ → EReal)
      (ix2 i k) = sqDist X E i k := by
  have e1 : broadcastInDim ⟨2, ![16384, 8192]⟩ ![0, 1] b3 (broadcastInDim ⟨2, ![16384, 1]⟩ ![0] b1
          (Host.reduceAdd (F := Ideal) (φ := .f32) (mulf (F := Ideal) (φ := .f32) X X) (constant (F := Ideal) ⟨0, ![]⟩ .f32 0#32) h1 hu)) (ix2 i k)
      = ∑ c : Fin 64, X (ix2 i c) * X (ix2 i c) :=
    ((broadcastInDim_apply _ _ _ (ix2 i k) (ix2 i 0) (fun a => by match a with | ⟨0, _⟩ => rfl | ⟨1, _⟩ => rfl)).trans
      (broadcastInDim_apply _ _ _ (ix2 i 0) (ix1 i) (fun a => by match a with | ⟨0, _⟩ => rfl))).trans (sum_sq_row _ _ _ i)
  have e2 : broadcastInDim ⟨2, ![16384, 8192]⟩ ![0, 1] b5 (broadcastInDim ⟨2, ![1, 8192]⟩ ![1] b4
        (Host.reduceAdd (F := Ideal) (φ := .f32) (mulf (F := Ideal) (φ := .f32) E E) (constant (F := Ideal) ⟨0, ![]⟩ .f32 0#32) h0 hu)) (ix2 i k)
      = ∑ c : Fin 64, E (ix2 c k) * E (ix2 c k) :=
    ((broadcastInDim_apply _ _ _ (ix2 i k) (ix2 0 k) (fun a => by match a with | ⟨0, _⟩ => rfl | ⟨1, _⟩ => rfl)).trans
      (broadcastInDim_apply _ _ _ (ix2 0 k) (ix1 k) (fun a => by match a with | ⟨0, _⟩ => rfl))).trans (sum_sq_col _ _ _ k)
  have e3 : Host.dotGeneral (F := Ideal) (φ₁ := .f32) (φ₂ := .f32) (DotDims.plain 16384 64 8192) none
          (mulf (F := Ideal) (φ := .f32) (broadcastInDim ⟨2, ![16384, 64]⟩ ![] b2 (constant (F := Ideal) ⟨0, ![]⟩ .f32 0x40000000#32)) X) E (ix2 i k)
      = ∑ c : Fin 64, (X (ix2 i c) * Ideal.ofBits .f32 0x40000000#32) * E (ix2 c k) := by
    refine (Idealize.ShloMosaic.StackMember.dotGeneral_plain_apply (φ₁ := .f32) (φ₂ := .f32) none _ _ i k).trans (Finset.sum_congr rfl fun c _ => ?_)
    exact congrArg (· * E (ix2 c k)) (mul_comm (Ideal.ofBits .f32 0x40000000#32) (X (ix2 i c)))
  unfold sqDist
  rw [← e1, ← e2, ← e3]
  rfl

end NearestHost
-- ==== Proof.NearestRefRun.lean ====
/-
  The run of the nearest-column reference: a straight line of host operations, whose result is `nearest` of the arguments.
-/
module

public import proofs.«01_k».proof.Proof.NearestHost
public import proofs.«01_k».proof.Proof.Gen.NearestRefIdeal
public import Idealize.ShloMosaic.Lib.StableHlo.Run
public import Idealize.ShloMosaic.Lib.StableHlo.ReadAt
public import Idealize.ShloMosaic.Lib.Quiescent

@[expose] public section

noncomputable section

namespace NearestRefRun

open Idealize.ShloMosaic hiding ix0 ix1 ix2
open Idealize.ShloMosaic.TcCoe Idealize.ShloMosaic.ValueIdx Idealize.SL.Sem Idealize.ShloMosaic.StableHlo
open Cert.NearestRefIdeal Cert.NearestRefIdeal.Gen NearestSpec FirstMin

/-- The type of `argmax`'s reduction: from the table, the column numbers and the two initial values to a pair at each row. -/
abbrev Reduction : Type :=
  (⟨S16384x8192, .f32⟩ : BufTy).Contents (Elt Ideal) → (⟨S16384x8192, .i32⟩ : BufTy).Contents (Elt Ideal) →
    (⟨S_, .f32⟩ : BufTy).Contents (Elt Ideal) → (⟨S_, .i32⟩ : BufTy).Contents (Elt Ideal) → S16384.Idx → EReal × BitVec 32

/-- The reduction of the program. -/
abbrev reduction : Reduction := fun x y u v =>
  Host.argReduce (F := Ideal) (φ := .f32) (reducer_argmax_f32_i32 (F := Ideal)) x y u v reducesTo_S16384x8192_S16384_d1 h_S_

/-- @main's operations, in order, around a reduction; the five of `argmax` stand where it is called. -/
abbrev opsOf (R : Reduction) : List (HloOp τ sig (Elt Ideal)) :=
  [ StableHlo.reshape main_arg0 main_v0 (rfl : (.f32 : EltTy) = .f32) shapeCasts_S16x1024x64_S16384x64,
    binary main_v0 main_v0 main_v1 (mulf (F := Ideal) (φ := .f32)),
    nullary main_cst (constant (F := Ideal) S_ .f32 0x00000000#32),
    binary main_v1 main_cst main_v2 (fun x v => Host.reduceAdd (F := Ideal) (φ := .f32) x v reducesTo_S16384x64_S16384_d1 h_S_),
    unary main_v2 main_v3 (broadcastInDim S16384x1 ![0] bcast_S16384_S16384x1_0),
    nullary main_cst_0 (constant (F := Ideal) S_ .f32 0x40000000#32),
    unary main_cst_0 main_v4 (broadcastInDim S16384x64 ![] bcast_S_S16384x64),
    binary main_v4 main_v0 main_v5 (mulf (F := Ideal) (φ := .f32)),
    binary main_v5 main_arg1 main_v6 (fun l r => Host.dotGeneral (F := Ideal) (φ₁ := .f32) (φ₂ := .f32) dot_S16384x64_S64x8192_S16384x8192_1_0_0_1_n_n none l r),
    unary main_v3 main_v7 (broadcastInDim S16384x8192 ![0, 1] bcast_S16384x1_S16384x8192_0_1),
    binary main_v7 main_v6 main_v8 (subf (F := Ideal) (φ := .f32)),
    binary main_arg1 main_arg1 main_v9 (mulf (F := Ideal) (φ := .f32)),
    nullary main_cst_1 (constant (F := Ideal) S_ .f32 0x00000000#32),
    binary main_v9 main_cst_1 main_v10 (fun x v => Host.reduceAdd (F := Ideal) (φ := .f32) x v reducesTo_S64x8192_S8192_d0 h_S_),
    unary main_v10 main_v11 (broadcastInDim S1x8192 ![1] bcast_S8192_S1x8192_1),
    unary main_v11 main_v12 (broadcastInDim S16384x8192 ![0, 1] bcast_S1x8192_S16384x8192_0_1),
    binary main_v8 main_v12 main_v13 (addf (F := Ideal) (φ := .f32)),
    unary main_v13 main_v14 (Host.negf (F := Ideal) (φ := .f32)),
    nullary main_call0_v0 (iotaInDim S16384x8192 32 1),
    nullary main_call0_cst (constant (F := Ideal) S_ .f32 0xFF800000#32),
    nullary main_call0_c (constantI S_ 32 0#32),
    quaternary main_v14 main_call0_v0 main_call0_cst main_call0_c main_call0_v1_0 (fun x y u v j => (R x y u v j).1),
    quaternary main_v14 main_call0_v0 main_call0_cst main_call0_c main_v15 (fun x y u v j => (R x y u v j).2),
    StableHlo.reshape main_v15 main_v16 (rfl : (.i32 : EltTy) = .i32) shapeCasts_S16384_S16384x1 ]

abbrev ops : List (HloOp τ sig (Elt Ideal)) := opsOf reduction

/-! The called function's operations are the plain ones on its buffers, whatever they compute. -/

theorem places_eq (f : (⟨S16384x8192, .i32⟩ : BufTy).Contents (Elt Ideal)) :
    TRef.nullary (τ := τ) main_call0.v0 f = nullary main_call0_v0 f := rfl
theorem least_eq (f : (⟨S_, .f32⟩ : BufTy).Contents (Elt Ideal)) :
    TRef.nullary (τ := τ) main_call0.cst f = nullary main_call0_cst f := rfl
theorem zero_eq (f : (⟨S_, .i32⟩ : BufTy).Contents (Elt Ideal)) :
    TRef.nullary (τ := τ) main_call0.c f = nullary main_call0_c f := rfl
theorem value_eq (f : (⟨S16384x8192, .f32⟩ : BufTy).Contents (Elt Ideal) → (⟨S16384x8192, .i32⟩ : BufTy).Contents (Elt Ideal) →
      (⟨S_, .f32⟩ : BufTy).Contents (Elt Ideal) → (⟨S_, .i32⟩ : BufTy).Contents (Elt Ideal) → (⟨S16384, .f32⟩ : BufTy).Contents (Elt Ideal)) :
    TRef.quaternary (τ := τ) (.of main_v14) main_call0.v0 main_call0.cst main_call0.c main_call0.v1_0 f
      = quaternary main_v14 main_call0_v0 main_call0_cst main_call0_c main_call0_v1_0 f := rfl
theorem index_eq (f : (⟨S16384x8192, .f32⟩ : BufTy).Contents (Elt Ideal) → (⟨S16384x8192, .i32⟩ : BufTy).Contents (Elt Ideal) →
      (⟨S_, .f32⟩ : BufTy).Contents (Elt Ideal) → (⟨S_, .i32⟩ : BufTy).Contents (Elt Ideal) → (⟨S16384, .i32⟩ : BufTy).Contents (Elt Ideal)) :
    TRef.quaternary (τ := τ) (.of main_v14) main_call0.v0 main_call0.cst main_call0.c main_call0.v1_1 f
      = quaternary main_v14 main_call0_v0 main_call0_cst main_call0_c main_v15 f := rfl

/-- @main is that straight line. -/
theorem main_eq (c : Dev nD) : main (F := Ideal) c = seq ops := by
  unfold main fn_argmax.body
  rw [places_eq, least_eq, zero_eq, value_eq, index_eq]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt Ideal))).Forall fun op => op.bufs ⊆ tcRefs τ sig :=
  ⟨reshape_bufs_sub .., binary_bufs_sub .., nullary_bufs_sub .., binary_bufs_sub .., unary_bufs_sub ..,
    nullary_bufs_sub .., unary_bufs_sub .., binary_bufs_sub .., binary_bufs_sub .., unary_bufs_sub ..,
    binary_bufs_sub .., binary_bufs_sub .., nullary_bufs_sub .., binary_bufs_sub .., unary_bufs_sub ..,
    unary_bufs_sub .., binary_bufs_sub .., unary_bufs_sub .., nullary_bufs_sub .., nullary_bufs_sub ..,
    nullary_bufs_sub .., quaternary_bufs_sub .., quaternary_bufs_sub .., reshape_bufs_sub ..⟩

/-- The comparison `argmax` folds with, at the extended reals: no value differs from itself. -/
theorem reducer_eq : reducer_argmax_f32_i32 (F := Ideal) = pick := by
  funext a b
  exact NearestHost.keep_larger a.1 b.1 a.2 b.2

variable (m : (ℓ : Loc nD τ sig) → Buf (Elt Ideal) ℓ) (ρ : Dev nD → PrngReg)

theorem arg0_eq (V : Valuation τ sig (Elt Ideal)) : after ops V (main_arg0 : DevRef τ sig) = V (main_arg0 : DevRef τ sig) := by
  after_results
theorem arg1_eq (V : Valuation τ sig (Elt Ideal)) : after ops V (main_arg1 : DevRef τ sig) = V (main_arg1 : DevRef τ sig) := by
  after_results

/-- The rows' places: what the reduction leaves at each row, given that it is a fold of the row's pairs. -/
theorem out_of (R : Reduction) (V : Valuation τ sig (Elt Ideal)) (i : Fin 16384)
    (hR : ∀ d : (⟨S16384x8192, .f32⟩ : BufTy).Contents (Elt Ideal),
      (R (Host.negf (F := Ideal) (φ := .f32) d) (iotaInDim S16384x8192 32 1) (constant (F := Ideal) S_ .f32 0xFF800000#32)
        (constantI S_ 32 0#32) (ix1 i)).2 = place (by norm_num : 0 < 8192) (fun k => d (ix2 i k))) :
    after (opsOf R) V (main_v16 : DevRef τ sig) (ix2 i 0 : (⟨2, ![16384, 1]⟩ : Shape).Idx)
      = place (by norm_num : 0 < 8192)
          (sqDist (shapeCast S16384x64 (V (main_arg0 : DevRef τ sig)) shapeCasts_S16x1024x64_S16384x64) (V (main_arg1 : DevRef τ sig)) i) := by
  after_reads_simp
  refine (shapeCast_a_a1_apply _ _ i 0).trans ((hR _).trans ?_)
  refine congrArg (place _) (funext fun k => ?_)
  exact NearestHost.table_apply _ _ _ _ _ _ _ _ _ _ i k

/-- The result: every row's nearest column. -/
theorem out_eq (V : Valuation τ sig (Elt Ideal)) :
    after ops V (main_v16 : DevRef τ sig)
      = nearest (shapeCast S16384x64 (V (main_arg0 : DevRef τ sig)) shapeCasts_S16x1024x64_S16384x64) (V (main_arg1 : DevRef τ sig)) := by
  funext j
  have hj : j = (ix2 (j 0) 0 : (⟨2, ![16384, 1]⟩ : Shape).Idx) := by
    funext a
    match a with
    | ⟨0, _⟩ => rfl
    | ⟨1, _⟩ => apply Fin.ext; have h1 : (j 1 : ℕ) < 1 := (j 1).isLt; show (j 1 : ℕ) = 0; omega
  generalize (j 0 : Fin 16384) = i at hj
  subst hj
  exact out_of reduction V i fun d => NearestHost.arg_row _ reducer_eq d _ _ i

/-- The run: the result is `nearest` of the arguments, and they stay. -/
theorem run : θ_run defs (onTc (τ := τ) (main (F := Ideal))) ⟨m, fun _ => 0, ρ⟩ fun r => ∀ c : Dev nD,
      r.2.mem ((c.tc : Thread nD τ).loc main_v16)
        = nearest (shapeCast S16384x64 (m ((c.tc : Thread nD τ).loc main_arg0)) shapeCasts_S16x1024x64_S16384x64)
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun r h c => ⟨(h c main_v16).trans (out_eq _), (h c main_arg0).trans (arg0_eq _), (h c main_arg1).trans (arg1_eq _)⟩)
    (run_seq scopedRefs_eq scopedSems_eq defs main (fun _ => ops) main_eq (fun _ => ops_sub) m ρ)

end NearestRefRun

end
-- ==== Proof.LookupBody.lean ====
/-
  What one grid point of the second call does, on any buffers of any program that holds it.

  The body copies 256 rows of the table `e` into its scratch buffer, row `r` being the row that word `256 i + r` of the
  index table names; it then writes `x + (q − x)` of that scratch `q` into the output block and adds the total of
  `(q − x)²` to the running total, which the first point starts at zero and the last multiplies by a constant. Stated
  over any signature, so that it serves the call alone and the call inside the whole computation.
-/
module

public import proofs.«01_k».proof.Proof.Gen.LookupIdeal.Skeleton
public import Idealize.ShloMosaic.Lib.ValueIdx
public import Idealize.ShloMosaic.Lib.ValueIdxCoords
public import Idealize.ShloMosaic.Lib.VecWindow
public import Idealize.ShloMosaic.Lib.Pointwise.Reshape
public import Idealize.ShloMosaic.Lib.Exec
public import Idealize.ShloMosaic.Lib.Tactic
public import Idealize.ShloMosaic.Lib.Pipeline.Kit

@[expose] public section

noncomputable section

namespace LookupBody

open Idealize.ShloMosaic hiding ix0 ix1 ix2
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Cert.LookupIdeal (S1 S1x1 S1x64 S256x64 S8192x64 S16384 grid0 k0_t1_loop k0_off1 k0_off2 k0_off3 k0_chk1 k0_off2_inb)
open Cert.LookupIdeal.Facts₀
open Cert.LookupIdeal.Gen (k0_pay1 k0_pay3 k0_pay4 k0_pay5 k0_pay6 k0_off1_eq k0_off3_eq)

variable {F : FTy → Type} [FloatOps F]
variable {nd : ℕ} {tp : Topo} {sg : RefSig} {Λ : Labels}

/-! ### The words and the rows they name -/

/-- Every word of the table names a row of the codes. -/
def InRange (w : Vec F S16384 .i32) : Prop := ∀ y, (w y).toNat < 8192

/-- The index of word `256 i + r`. -/
abbrev wordAt (i : grid0.Coords) (r : Fin 256) : S16384.Idx :=
  ix1 ⟨256 * (i 0).val + r.val, by have h : (i 0).val < 64 := (i 0).isLt; have := r.isLt; show _ < 16384; omega⟩

/-- The row of the codes a word names. -/
abbrev rowOf {w : Vec F S16384 .i32} (hw : InRange w) (y : S16384.Idx) : Fin 8192 := ⟨(w y).toNat, hw y⟩

/-- The rows of a point: row `r` is the row of `e` that word `256 i + r` names. -/
def rows (i : grid0.Coords) {w : Vec F S16384 .i32} (hw : InRange w) (e : Vec F S8192x64 .f32) : Vec F S256x64 .f32 :=
  fun y => e (ix2 (rowOf hw (wordAt i (y 0))) (y 1))

/-- A word below 8192 names a row inside the codes. -/
theorem chk_of_lt (v : BitVec 32) (h : v.toNat < 8192) : k0_chk1 v := by
  intro a
  match a with
  | ⟨0, _⟩ => show v.toNat + 1 ≤ 8192; omega
  | ⟨1, _⟩ => show 0 + 64 ≤ 64; omega

/-! ### One trip of the copying loop -/

section Trip

variable (i : grid0.Coords) (arg1 : Memref sg .tc .smem S16384 .i32) (arg3 : Memref sg .tc .vmem S8192x64 .f32)
  (arg6 : Memref sg .tc .vmem S256x64 .f32)

/-- One trip: read the word, check the row it names, copy that row. -/
def trip : Fin k0_t1_loop.trips → Unit → Prog (TpuEff nd tp sg (Elt F) Λ .tc) Unit := fun t _ => do
  let v : Elt F .i32 ← smemLoad arg1 (Rect.unit (s := S16384) (k0_off1 i t) S1.size (k0_off1_inb i t)) numel1_S1 rfl
  have hv : k0_chk1 v := (← Prog.lift (TpuEff.assume (k0_chk1 v) (Cert.LookupIdeal.k0_chk1.dec v))).down
  let row : Vec F S1x64 .f32 ← Prog.lift (.load arg3 (Rect.unit (s := S8192x64) (k0_off2 v) S1x64.size (k0_off2_inb v hv)).toLoadRect (View.loadsAt_vmem h_S1x64))
  let _old : Vec F S1x64 .f32 ← Prog.lift (.load arg6 (Rect.unit (s := S256x64) (k0_off3 t) S1x64.size (k0_off3_inb t)).toLoadRect (View.loadsAt_vmem h_S1x64))
  Prog.lift (.store arg6 (Rect.unit (s := S256x64) (k0_off3 t) S1x64.size (k0_off3_inb t)) (k0_pay1 row) Finset.univ (View.stores_vmem_bits_univ h_S1x64 rfl) (.inl rfl))
  pure ⟨⟩

variable (D : Defs nd tp sg (Elt F) Λ) (c : Dev nd) (q : PosShare TreeShare)
  (f1 : Buf (Elt F) (arg1.view.loc (c : Thread nd tp))) (f3 : Buf (Elt F) (arg3.view.loc (c : Thread nd tp)))

/-- The scratch's first `k` rows are the point's rows. -/
def Filled (i : grid0.Coords) {w : Vec F S16384 .i32} (hw : InRange w) (e : Vec F S8192x64 .f32) (k : ℕ) (g : Vec F S256x64 .f32) : Prop :=
  ∀ y : S256x64.Idx, (y 0).val < k → g y = rows i hw e y

/-- Before trip `k`: the words and the codes as they were, the scratch's first `k` rows copied. -/
def inv (hw : InRange (F := F) (arg1.view.read (Elt F) f1)) (k : ℕ) (_ : Unit) :
    sProp (MT nd tp sg Unit (Elt F) ℕ (UR sg nd tp) ℕ) :=
  iprop((arg1.view.loc (c : Thread nd tp) ↦[arg1.view.set]{q} f1)
    ∗ (arg3.view.loc (c : Thread nd tp) ↦[arg3.view.set]{fullShare} f3)
    ∗ ∃ f6, (arg6.view.loc (c : Thread nd tp) ↦[arg6.view.set]{fullShare} f6)
        ∗ ⌜Filled i hw (arg3.view.read (Elt F) f3) k (arg6.view.read (Elt F) f6)⌝)

/-- The trip's number as a row of the block. -/
abbrev rowNo (k : Fin k0_t1_loop.trips) : Fin 256 := ⟨k.val, k.isLt⟩

/-- Copying row `k` makes one more row the point's. -/
theorem filled_succ (hw : InRange (F := F) (arg1.view.read (Elt F) f1)) (k : Fin k0_t1_loop.trips)
    (f6 : Buf (Elt F) (arg6.view.loc (c : Thread nd tp)))
    (hf : Filled i hw (arg3.view.read (Elt F) f3) k.val (arg6.view.read (Elt F) f6))
    (v : BitVec 32) (hv : v = arg1.view.read (Elt F) f1 (wordAt i (rowNo k))) (hc : k0_chk1 v) :
    Filled i hw (arg3.view.read (Elt F) f3) (k.val + 1) (arg6.view.read (Elt F) (arg6.view.writes (Elt F) f6
      [⟨Rect.unit (s := S256x64) (k0_off3 k) S1x64.size (k0_off3_inb k),
        k0_pay1 (arg3.view.readAt (Elt F) (Rect.unit (s := S8192x64) (k0_off2 v) S1x64.size (k0_off2_inb v hc)).toLoadRect f3)⟩])) := by
  intro y hy
  by_cases hk : (y 0).val = k.val
  · refine (View.read_writes_cons_rows_of_mem (o := k.val) arg6.view f6 (k0_off3_inb k) _ [] y (ix2 (0 : Fin 1) (y 1)) (k0_off3_eq k)
      (by rw [hk]; rfl) rfl).trans ?_
    unfold k0_pay1 rows
    rw [shapeCast_id, shapeCast_id, View.readAt_apply]
    refine congrArg (arg3.view.read (Elt F) f3) (funext fun a => Fin.ext ?_)
    have hr : wordAt i (y 0) = wordAt i (rowNo k) := congrArg (wordAt i) (Fin.ext hk)
    match a with
    | ⟨0, _⟩ =>
      show v.toNat + 1 * 0 = (arg1.view.read (Elt F) f1 (wordAt i (y 0))).toNat
      rw [hr, ← hv]; omega
    | ⟨1, _⟩ => show 0 + 1 * (y 1).val = (y 1).val; omega
  · refine (View.read_writes_cons_rows_of_not_mem (o := k.val) (W := 1) arg6.view f6 (k0_off3_inb k) _ [] y (k0_off3_eq k) rfl (by omega)).trans ?_
    rw [View.writes_nil]
    exact hf y (by omega)

set_option maxHeartbeats 1000000 in
/-- One trip takes the state before it to the state before the next. -/
theorem trip_step (hw : InRange (F := F) (arg1.view.read (Elt F) f1)) (k : Fin k0_t1_loop.trips) (acc : Unit) :
    inv i arg1 arg3 arg6 c q f1 f3 hw k acc
      ⊢ wp frame (wpE D Variants.none (c : Thread nd tp) none) Set.univ (trip (F := F) i arg1 arg3 arg6 k acc)
        (inv i arg1 arg3 arg6 c q f1 f3 hw (k.val + 1)) := by
  unfold inv trip
  iintro ⟨H1, H3, ⟨%f6, H6, %hf⟩⟩
  have hchk : ∀ y, k0_chk1 (arg1.view.read (Elt F) f1 y) := fun y => chk_of_lt _ (hw y)
  sl_exec
  sl_step
  isplitl [H1]; · iexact H1
  isplitl [H3]; · iexact H3
  iexists _; isplitl [H6]; · iexact H6
  ipureintro
  refine filled_succ i arg1 arg3 arg6 c f1 f3 hw k f6 hf _ ?_ ?_
  swap; · exact hchk _
  refine congrArg (arg1.view.read (Elt F) f1) (funext fun a => Fin.ext ?_)
  match a with
  | ⟨0, _⟩ =>
    show k0_off1 i k 0 + 1 * 0 = 256 * (i 0).val + k.val
    rw [k0_off1_eq]; rfl

set_option warn.classDefReducibility false in
/-- The copying loop, by what holds before each trip. -/
@[sl_loop] def copyLoop (hw : InRange (F := F) (arg1.view.read (Elt F) f1)) :
    LoopInv (M := MT nd tp sg Unit (Elt F) ℕ (UR sg nd tp) ℕ) frame (wpE D Variants.none (c : Thread nd tp) none) Set.univ
      k0_t1_loop.lb k0_t1_loop.ub k0_t1_loop.st k0_t1_ok () (trip (F := F) i arg1 arg3 arg6) where
  inv := inv i arg1 arg3 arg6 c q f1 f3 hw
  step := trip_step i arg1 arg3 arg6 D c q f1 f3 hw

end Trip

/-! ### The whole body -/

/-- The first point. -/
abbrev AtFirst (i : grid0.Coords) : Prop :=
  Scalar.cmpi .ne (Scalar.extui (Scalar.cmpi .eq (BitVec.ofNat 32 (i 0).val) 0#32) : BitVec 32) 0#32 = 1#1
/-- The last point. -/
abbrev AtLast (i : grid0.Coords) : Prop :=
  Scalar.cmpi .ne (Scalar.extui (Scalar.cmpi .eq (BitVec.ofNat 32 (i 0).val) 63#32) : BitVec 32) 0#32 = 1#1

/-- The running total before the point adds to it: zero at the first. -/
def start (i : grid0.Coords) (a : Vec F S1x1 .f32) : Vec F S1x1 .f32 := if AtFirst i then k0_pay4 else a
/-- The running total after the point, from its rows `q` and its block `x`: the last point scales it. -/
def total (i : grid0.Coords) (x q : Vec F S256x64 .f32) (a : Vec F S1x1 .f32) : Vec F S1x1 .f32 :=
  if AtLast i then k0_pay6 (k0_pay5 x q (start i a)) else k0_pay5 x q (start i a)

abbrev whole256 : Rect S256x64 := Rect.unit (s := S256x64) ![0, 0] S256x64.size inb_S256x64_S256x64_0_0
abbrev whole1 : Rect S1x1 := Rect.unit (s := S1x1) ![0, 0] S1x1.size inb_S1x1_S1x1_0_0

section Body

variable (i : grid0.Coords) (arg1 : Memref sg .tc .smem S16384 .i32) (arg2 : Memref sg .tc .vmem S256x64 .f32)
  (arg3 : Memref sg .tc .vmem S8192x64 .f32) (arg4 : Memref sg .tc .vmem S256x64 .f32)
  (arg5 : Memref sg .tc .vmem S1x1 .f32) (arg6 : Memref sg .tc .vmem S256x64 .f32)

/-- The body: the copying loop, the output block, the running total. -/
def body : Prog (TpuEff nd tp sg (Elt F) Λ .tc) PUnit := do
  Scf.Loop.for k0_t1_loop k0_t1_ok ⟨⟩ (trip i arg1 arg3 arg6)
  let x : Vec F S256x64 .f32 ← Prog.lift (.load arg2 whole256.toLoadRect (View.loadsAt_vmem h_S256x64))
  let q : Vec F S256x64 .f32 ← Prog.lift (.load arg6 whole256.toLoadRect (View.loadsAt_vmem h_S256x64))
  let _old : Vec F S256x64 .f32 ← Prog.lift (.load arg4 whole256.toLoadRect (View.loadsAt_vmem h_S256x64))
  Prog.lift (.store arg4 whole256 (k0_pay3 x q) Finset.univ (View.stores_vmem_bits_univ h_S256x64 rfl) (.inl rfl))
  if AtFirst i then do
    let _old : Vec F S1x1 .f32 ← Prog.lift (.load arg5 whole1.toLoadRect (View.loadsAt_vmem h_S1x1))
    Prog.lift (.store arg5 whole1 (k0_pay4 (F := F)) Finset.univ (View.stores_vmem_bits_univ h_S1x1 rfl) (.inl rfl))
    pure ⟨⟩
  else do
    pure ⟨⟩
  let a : Vec F S1x1 .f32 ← Prog.lift (.load arg5 whole1.toLoadRect (View.loadsAt_vmem h_S1x1))
  let _old : Vec F S1x1 .f32 ← Prog.lift (.load arg5 whole1.toLoadRect (View.loadsAt_vmem h_S1x1))
  Prog.lift (.store arg5 whole1 (k0_pay5 x q a) Finset.univ (View.stores_vmem_bits_univ h_S1x1 rfl) (.inl rfl))
  if AtLast i then do
    let b : Vec F S1x1 .f32 ← Prog.lift (.load arg5 whole1.toLoadRect (View.loadsAt_vmem h_S1x1))
    let _old : Vec F S1x1 .f32 ← Prog.lift (.load arg5 whole1.toLoadRect (View.loadsAt_vmem h_S1x1))
    Prog.lift (.store arg5 whole1 (k0_pay6 b) Finset.univ (View.stores_vmem_bits_univ h_S1x1 rfl) (.inl rfl))
    pure ⟨⟩
  else do
    pure ⟨⟩
  pure ⟨⟩

variable (D : Defs nd tp sg (Elt F) Λ) (c : Dev nd) (q : PosShare TreeShare)

/-- A scratch all of whose rows are the point's reads as them. -/
theorem filled_all {w : Vec F S16384 .i32} (hw : InRange w) (e : Vec F S8192x64 .f32) (g : Vec F S256x64 .f32)
    (h : Filled i hw e k0_t1_loop.trips g) : g = rows i hw e :=
  funext fun y => h y (y 0).isLt

set_option maxHeartbeats 4000000 in
/-- The body's run: from the words (all in range), the block and the codes, to the output block and the running total. -/
theorem body_run (w : Vec F S16384 .i32) (hw : InRange w) (x : Vec F S256x64 .f32) (e : Vec F S8192x64 .f32) (a : Vec F S1x1 .f32)
    (K : PUnit → sProp (MT nd tp sg Unit (Elt F) ℕ (UR sg nd tp) ℕ)) :
    iprop(owns (c : Thread nd tp) arg1 q w ∗ owns (c : Thread nd tp) arg2 fullShare x ∗ owns (c : Thread nd tp) arg3 fullShare e
        ∗ (∃ d, owns (c : Thread nd tp) arg4 fullShare d) ∗ owns (c : Thread nd tp) arg5 fullShare a
        ∗ (∃ d, owns (c : Thread nd tp) arg6 fullShare d)
        ∗ (iprop(owns (c : Thread nd tp) arg1 q w ∗ owns (c : Thread nd tp) arg2 fullShare x ∗ owns (c : Thread nd tp) arg3 fullShare e
          ∗ owns (c : Thread nd tp) arg4 fullShare (k0_pay3 x (rows i hw e))
          ∗ owns (c : Thread nd tp) arg5 fullShare (total i x (rows i hw e) a)
          ∗ (∃ d, owns (c : Thread nd tp) arg6 fullShare d)) -∗ K ⟨⟩))
      ⊢ wp frame (wpE D Variants.none (c : Thread nd tp) none) Set.univ (body (F := F) i arg1 arg2 arg3 arg4 arg5 arg6) K := by
  unfold body owns
  iintro ⟨⟨%f1, %hf1, H1⟩, ⟨%f2, %hf2, H2⟩, ⟨%f3, %hf3, H3⟩, ⟨%d4, %f4, -, H4⟩, ⟨%f5, %hf5, H5⟩, ⟨%d6, %f6, -, H6⟩, Hk⟩
  subst hf1 hf2 hf3 hf5
  have h0 : Filled i hw (arg3.view.read (Elt F) f3) 0 (arg6.view.read (Elt F) f6) := fun _ h => absurd h (Nat.not_lt_zero _)
  let L := copyLoop (F := F) i arg1 arg3 arg6 D c q f1 f3 hw
  by_cases h1 : AtFirst i <;> by_cases h2 : AtLast i <;>
  ( sl_exec
    sl_step
    iapply Hk
    have hq := filled_all i hw (arg3.view.read (Elt F) f3) _ hL3
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro
      rw [View.read_writes_full, View.readAt_full, View.readAt_full, hq]
    isplitr [H6]; swap
    · iexists _; iexists _; isplitr; swap; · iexact H6
      ipureintro; rfl
    iexists _; isplitr; swap; · iexact H5
    ipureintro
    rw [View.read_writes_full]
    unfold total start
    have e2 : arg2.view.readAt (Elt F) whole256.toLoadRect f2 = arg2.view.read (Elt F) f2 := View.readAt_full _ _ _
    have e6 : arg6.view.readAt (Elt F) whole256.toLoadRect f6L0 = _ := (View.readAt_full _ _ _).trans hq
    first | rw [if_pos h2] | rw [if_neg h2]
    first | rw [if_pos h1] | rw [if_neg h1]
    rw [← e2, ← e6]
    first
    | exact congrArg k0_pay6 ((View.readCov_full _ _ _ _ _).trans (congrArg (k0_pay5 _ _) (View.readCov_full _ _ _ _ _)))
    | exact congrArg k0_pay6 ((View.readCov_full _ _ _ _ _).trans (congrArg (k0_pay5 _ _) (View.readAt_full _ _ _)))
    | exact congrArg (k0_pay5 _ _) (View.readCov_full _ _ _ _ _)
    | exact congrArg (k0_pay5 _ _) (View.readAt_full _ _ _) )

end Body

end LookupBody
-- ==== Proof.LookupRun.lean ====
/-
  The run of the second call alone, at any floats: given that every word of the index table is below 8192.

  The proof data say what each grid point leaves: its output block is `x + (q − x)` of the point's block `x` and the rows
  `q` the words name, and the running total is that of the points so far. The body's run (`LookupBody.body_run`) meets
  them, and the launch gives every final state.
-/
module

public import proofs.«01_k».proof.Proof.LookupBody
public import proofs.«01_k».proof.Proof.Gen.LookupIdeal.Launch
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.StableHlo.ReadAt

@[expose] public section

noncomputable section

namespace LookupRun

open Idealize.ShloMosaic hiding ix0 ix1 ix2
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LookupIdeal Cert.LookupIdeal.Gen LookupBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Up to the call -/

/-- What a core's buffers hold when the call begins: the host's reshapes and transpose done. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The index table the call finds. -/
abbrev words (c : Dev nD) : Vec F S16384 .i32 := V m c main_v2

/-- The table as the call's prefetched contents (every core's: there is one). -/
abbrev adm : (pcfg0 (F := F)).Adm := ⟨fun k => V m 0 (pre0.ref k), trivial⟩
abbrev adms : (p : Fin 1) → (pcfgs (F := F) p).Adm := fun _ => adm m
abbrev cf : Cfg sig Λ₀ := cfg0 (adm m)

theorem main_upto (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! ### What each point leaves -/

/-- Window `w`'s block at point `t`, as the call finds its array. -/
def blockAt (c : Dev nD) (w : Fin (cf m).W) (t : Fin (cf m).N) : (((cf m).win w).xblock ((cf m).grid.coords t)).Idx → Elt F ((cf m).win w).elt :=
  (((cf m).win w).blk t).view.read (Elt F) (V m c (Pipeline.arrRef spec0 w))

/-- At the first point the total starts anew, whatever its buffer held. -/
theorem total_first (i : grid0.Coords) (h : AtFirst i) (x q : Vec F S256x64 .f32) (a b : Vec F S1x1 .f32) :
    total i x q a = total i x q b := by
  unfold total start
  rw [if_pos h, if_pos h]

section Data

variable (hw : ∀ c, InRange (words m c))

/-- The rows the words of point `t` name. -/
abbrev rowsAt (c : Dev nD) (t : Fin (cf m).N) : Vec F S256x64 .f32 := rows (grid0.coords t) (hw c) (blockAt m c 1 t)

/-- The running total after the first `n` points. -/
def totalUpto (c : Dev nD) : ℕ → Vec F S1x1 .f32
  | 0 => k0_pay4
  | n + 1 => if h : n < (cf m).N then total (grid0.coords ⟨n, h⟩) (blockAt m c 0 ⟨n, h⟩) (rowsAt m hw c ⟨n, h⟩) (totalUpto c n) else totalUpto c n

/-- The proof data of the call on core `c`. -/
def dats (_ : Fin 1) (c : Dev nD) : Dat τ (Elt F) Unit ℕ (UR sig nD τ) ℕ (cf m) c where
  A w := V m c (Pipeline.arrRef spec0 w)
  after w t := match w with
    | ⟨0, _⟩ => blockAt m c 0 t
    | ⟨1, _⟩ => blockAt m c 1 t
    | ⟨2, _⟩ => k0_pay3 (blockAt m c 0 t) (rowsAt m hw c t)
    | ⟨3, _⟩ => totalUpto m hw c (t.val + 1)
  Φ _ := iprop(Pipeline.ΦA spec0 c ∗ Pipeline.ΦT pre0 (adm m).1 c)
  q _ := fullShare
  owed _ := 0

theorem A_eq (c : Dev nD) (w : Fin (cf m).W) : (dats m hw 0 c).A w = V m c (Pipeline.arrRef spec0 w) := rfl
theorem after_0 (c : Dev nD) (t : Fin (cf m).N) : (dats m hw 0 c).after 0 t = blockAt m c 0 t := rfl
theorem after_1 (c : Dev nD) (t : Fin (cf m).N) : (dats m hw 0 c).after 1 t = blockAt m c 1 t := rfl
theorem after_2 (c : Dev nD) (t : Fin (cf m).N) : (dats m hw 0 c).after 2 t = k0_pay3 (blockAt m c 0 t) (rowsAt m hw c t) := rfl
theorem after_3 (c : Dev nD) (t : Fin (cf m).N) : (dats m hw 0 c).after 3 t = totalUpto m hw c (t.val + 1) := rfl

/-- An input's buffer holds its block at every point. -/
theorem before_0 (c : Dev nD) (t : Fin (cf m).N) (d) : (dats m hw 0 c).before 0 t d = blockAt m c 0 t :=
  ((dats m hw 0 c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin (cf m).N) (d) : (dats m hw 0 c).before 1 t d = blockAt m c 1 t :=
  ((dats m hw 0 c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)

/-- The running total is written back at the last point only. -/
theorem flush_3 (t : Fin (cf m).N) : ((cf m).win 3).flush t = true ↔ t.val % 64 = 63 :=
  Pipeline.Window.flush_const ((cf m).win 3) rfl (fun _ _ => rfl) (n := 64) (m := 63) N_0 rfl t

theorem atFirst_zero : ∀ t : Fin grid0.N, AtFirst (grid0.coords t) ↔ t.val = 0 := by decide +kernel
theorem atLast_last : ∀ t : Fin grid0.N, AtLast (grid0.coords t) ↔ t.val = 63 := by decide +kernel

/-- What the body finds in the running total's buffer gives, added to, the total of one more point. -/
theorem total_before (c : Dev nD) (t : Fin (cf m).N) (d) :
    total (grid0.coords t) (blockAt m c 0 t) (rowsAt m hw c t) ((dats m hw 0 c).before 3 t d) = totalUpto m hw c (t.val + 1) := by
  have e : totalUpto m hw c (t.val + 1) = total (grid0.coords t) (blockAt m c 0 t) (rowsAt m hw c t) (totalUpto m hw c t.val) := by
    rw [totalUpto, dif_pos t.isLt]
  rw [e]
  by_cases h0 : t.val = 0
  · have hf := (atFirst_zero t).mpr h0
    exact total_first _ hf _ _ _ _
  · have hl : t.val < 64 := lt_of_lt_of_eq t.isLt N_0
    rw [(dats m hw 0 c).before_out_kept 3 rfl t h0
      (by rw [Bool.eq_false_iff]; intro h; have := (flush_3 m _).mp h; simp only at this; omega) (fun _ => rfl) (fun _ _ => rfl) d, after_3]
    have : t.val - 1 + 1 = t.val := by omega
    simp only [this]

/-! ### The body at a point -/

/-- Window `w`'s staging buffer at point `t`. -/
abbrev slot (w : Fin 4) (t : Fin (cf m).N) := ((cf m).win w).stage ((cf m).slots t w)

/-- The body's call at point `t`. -/
abbrev bodyAt (t : Fin (cf m).N) : Prog (TpuEff nD τ sig (Elt F) Λ₀ .tc) PUnit :=
  LookupBody.body (F := F) (grid0.coords t) (Memref.whole main_v2) (slot m 0 t) (slot m 1 t) (slot m 2 t) (slot m 3 t) (Memref.whole cc0_scratch0)

/-- What the body is given at point `t`. -/
def bodyPre (c : Dev nD) (t : Fin (cf m).N) : sProp 𝕄 :=
  iprop((dats m hw 0 c).Φ t.castSucc ∗ (dats m hw 0 c).owesAt () t.castSucc
    ∗ (∃ d, owns (c : Thread nD τ) (slot m 0 t) fullShare ((dats m hw 0 c).before 0 t d))
    ∗ (∃ d, owns (c : Thread nD τ) (slot m 1 t) fullShare ((dats m hw 0 c).before 1 t d))
    ∗ (∃ d, owns (c : Thread nD τ) (slot m 2 t) fullShare ((dats m hw 0 c).before 2 t d))
    ∗ (∃ d, owns (c : Thread nD τ) (slot m 3 t) fullShare ((dats m hw 0 c).before 3 t d)))

/-- What it gives back. -/
def bodyPost (c : Dev nD) (t : Fin (cf m).N) : sProp 𝕄 :=
  iprop((dats m hw 0 c).Φ t.succ ∗ (dats m hw 0 c).owesAt () t.succ
    ∗ owns (c : Thread nD τ) (slot m 0 t) fullShare ((dats m hw 0 c).after 0 t)
    ∗ owns (c : Thread nD τ) (slot m 1 t) fullShare ((dats m hw 0 c).after 1 t)
    ∗ owns (c : Thread nD τ) (slot m 2 t) fullShare ((dats m hw 0 c).after 2 t)
    ∗ owns (c : Thread nD τ) (slot m 3 t) fullShare ((dats m hw 0 c).after 3 t))

/-- The invariant, each part by itself: the rest's one buffer (the gathered rows), the generator's register, the table. -/
theorem inv_eq (c : Dev nD) (t : Fin ((cf m).N + 1)) :
    (dats m hw 0 c).Φ t = iprop(((∃ f, ((c : Thread nD τ).loc cc0_scratch0) ↦{fullShare} f) ∗ ∃ r, prngReg c r)
      ∗ (((c : Thread nD τ).loc main_v2) ↦{fullShare.right} V m 0 main_v2)) := by
  show iprop(Pipeline.ΦA spec0 c ∗ Pipeline.ΦT pre0 (adm m).1 c) = _
  unfold Pipeline.ΦA Pipeline.ΦT Pipeline.prefHeld
  rw [scopedRest0_eq, bigSep_univ_eq_bigSepL [(0 : Fin 1)] (by decide) (by decide)]
  rfl

/-- One core: its index is 0. -/
theorem core_zero (c : Dev nD) : c = 0 := Subsingleton.elim _ _

theorem sound_body (c : Dev nD) (t : Fin (cf m).N) :
    bodyPre m hw c t ⊢ wp frame (wpE (defs₀ (F := F)) Variants.none c none) Set.univ (bodyAt m t) (fun _ => bodyPost m hw c t) := by
  unfold bodyPre bodyPost
  simp only [before_0, before_1]
  rw [inv_eq, inv_eq, show (dats m hw 0 c).owesAt () t.succ = (dats m hw 0 c).owesAt () t.castSucc from rfl, after_0, after_1, after_2, after_3]
  iintro ⟨⟨⟨⟨%f, Hf⟩, Hr⟩, Ht⟩, Ho, ⟨%d0, H0⟩, ⟨%d1, H1⟩, ⟨%d2, H2⟩, ⟨%d3, H3⟩⟩
  rw [← total_before m hw c t d3]
  obtain rfl := core_zero c
  iapply (body_run (grid0.coords t) (Memref.whole main_v2) (slot m 0 t) (slot m 1 t) (slot m 2 t) (slot m 3 t) (Memref.whole cc0_scratch0)
    defs₀ 0 fullShare.right (words m 0) (hw 0) (blockAt m 0 0 t) (blockAt m 0 1 t) ((dats m hw 0 0).before 3 t d3) _)
  simp only [owns_whole]
  isplitl [Ht]; · iexact Ht
  isplitl [H0]; · iexact H0
  isplitl [H1]; · iexact H1
  isplitl [H2]; · iexists _; iexact H2
  isplitl [H3]; · iexact H3
  isplitl [Hf]; · iexists _; iexact Hf
  iintro ⟨Ht, H0, H1, H2, H3, ⟨%g, Hf⟩⟩
  isplitl [Hf Hr Ht]
  · isplitl [Hf Hr]
    · isplitl [Hf]
      · iexists _; iexact Hf
      · iexact Hr
    · iexact Ht
  isplitl [Ho]; · iexact Ho
  isplitl [H0]; · iexact H0
  isplitl [H1]; · iexact H1
  isplitl [H2]; · iexact H2
  iexact H3

/-- The body table's row at point `t` is the body's call. -/
theorem defs₀_row (t : Fin (cf m).N) : defs₀ (F := F) .tc (cf m).body ((cf m).bodyArgs t ((cf m).slots t)) = bodyAt m t := by
  unfold defs₀; rw [Defs.onTc_tc]; rfl

theorem body_obligation (c : Dev nD) : BodyObligation (dats m hw 0 c) (defs₀ (F := F)) Variants.none () Set.univ := fun t => by
  rw [bigSep_W0, bigSep_W0, defs₀_row]
  exact triple_restated (sound_body m hw c t) rfl .rfl fun _ => .rfl

/-! ### The launch -/

set_option backward.isDefEq.respectTransparency.types false in
set_option maxHeartbeats 800000 in
/-- Every weakly fair execution ends, with each window's array as the proof data say, every other array as the call found it,
    and every semaphore zero. -/
theorem run : θ_run defs (onTc (τ := τ) (main (F := F))) (s₀ m ρ)
    (fun r => Pipeline.FramePost (Pipeline.pin pcfgs (adms m)) (dats m hw) 0 (V m) r ∧ r.2.sem = fun _ => 0) :=
  Pipeline.θ_run_frameP (Q' := _) pcfgs (adms m) (dats m hw) (0 : Fin 1) launch0 defs₀ Variants.none m ρ main
    (hbody := fun c => (body_obligation m hw c).loose) (hshare := fun c => (dats m hw 0 c).share_full fun _ => rfl)
    (howed := fun _ _ => rfl) (V := V m) (hmain := main_upto m Variants.none) (hA := A_eq m hw)
    (hpf := fun c k => by rw [core_zero c]) (hΦ := fun _ _ => rfl)

end Data

/-! ### The arguments are unchanged -/

theorem V_arg (c : Dev nD) (b : Ref sig .tc) (h0 : b ≠ main_v0) (h1 : b ≠ main_v1) (h2 : b ≠ main_v2) : V m c b = m ((c : Thread nD τ).loc b) :=
  StableHlo.after_of_forall_not_mem hostOps0 _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)
theorem rest2 : main_arg2 ∈ Pipeline.restRefs sig spec0 := Pipeline.mem_restRefs_of main_arg2 (by decide) (by decide)

/-- Every execution leaves the three arguments as they were, and every semaphore zero. -/
theorem frame (hw : ∀ c, InRange (words m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (rest0)).trans (V_arg m c _ (by decide) (by decide) (by decide)),
     ((h.1 c).2 main_arg1 (rest1)).trans (V_arg m c _ (by decide) (by decide) (by decide)),
     ((h.1 c).2 main_arg2 (rest2)).trans (V_arg m c _ (by decide) (by decide) (by decide))⟩, h.2⟩) (run m ρ hw)

end LookupRun
-- ==== Proof.LookupBits.lean ====
/-
  The second call on float words: the program is, text for text, the one run over the extended reals.
-/
module

public import proofs.«01_k».proof.Proof.LookupRun
public import proofs.«01_k».proof.Proof.Gen.Lookup

@[expose] public section

noncomputable section

namespace LookupBits

open Idealize.ShloMosaic Idealize.ShloMosaic.TcCoe Idealize.SL Idealize.SL.Sem
open Cert.Lookup

variable {F : FTy → Type} [FloatOps F]

/-- The two programs' signatures are the same. -/
theorem sig_eq : sig = Cert.LookupIdeal.sig := rfl

/-- So is the kernel, -/
theorem kernel_eq : cc0__lookup_kernel (F := F) = Cert.LookupIdeal.cc0__lookup_kernel (F := F) := rfl

/-- the body table, -/
theorem bodies_eq : defs₀ (F := F) = Cert.LookupIdeal.defs₀ (F := F) := by
  unfold defs₀ Cert.LookupIdeal.defs₀
  refine congrArg Defs.onTc (funext fun l => funext fun x => ?_)
  match l, x with
  | 0, (t, s) => rfl

theorem pcfgs_eq : pcfgs (F := F) = Cert.LookupIdeal.pcfgs (F := F) := rfl

/-- the whole table -/
theorem defs_eq : defs (F := F) = Cert.LookupIdeal.defs (F := F) :=
  congrArg (Pipeline.defs (pcfgs (F := F))) bodies_eq

/-- and @main. -/
theorem main_eq : main (F := F) = Cert.LookupIdeal.main (F := F) := rfl

theorem frame (m : (ℓ : Loc nD τ sig) → Buf (Elt F) ℓ) (ρ : Dev nD → PrngReg) (hw : ∀ c, LookupBody.InRange (LookupRun.words m c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact LookupRun.frame m ρ hw

end LookupBits
-- ==== Proof.LookupSpec.lean ====
/-
  The second call's two results as functions of the arrays, over the extended reals.

  `quantized X T r` puts at row `i` of `X` the row `r i` of `T`, written `x + (q − x)` as both programs write it, and
  `meanSq X T r` is the sum of the squares of `q − x` times 2⁻²⁰. The blocks' payloads and the host's text are read as
  these.
-/
module

public import proofs.«01_k».proof.Proof.LookupBody
public import Idealize.ShloMosaic.Lib.Pointwise.Reduce
public import Idealize.ShloMosaic.Lib.Pointwise.Reshape
public import Idealize.ShloMosaic.Lib.Pipeline.ValueKit.Acc
public import Idealize.ShloMosaic.Lib.ReduceAll
public import Idealize.ShloMosaic.Lib.IdealHost
public import Idealize.ShloMosaic.PureOps.Ideal.Laws

@[expose] public section

namespace LookupSpec

open Idealize.ShloMosaic hiding ix0 ix1 ix2
open Idealize.ShloMosaic.ValueIdx LookupBody
open Cert.LookupIdeal (S1x1 S256x64 grid0)
open Cert.LookupIdeal.Gen (k0_pay2 k0_pay3 k0_pay4 k0_pay5 k0_pay6)
open scoped BigOperators

abbrev Rows : Shape := ⟨2, ![16384, 64]⟩
abbrev Codes : Shape := ⟨2, ![8192, 64]⟩

/-- Row `r i` of `T` in the place of row `i` of `X`, as `x + (q − x)`. -/
noncomputable def quantized (X : Rows.Idx → EReal) (T : Codes.Idx → EReal) (r : Fin 16384 → Fin 8192) : Rows.Idx → EReal :=
  fun y => X y + (T (ix2 (r (y 0)) (y 1)) - X y)

/-- The square of `q − x` at an entry. -/
noncomputable def sqErr (X : Rows.Idx → EReal) (T : Codes.Idx → EReal) (r : Fin 16384 → Fin 8192) (y : Rows.Idx) : EReal :=
  (T (ix2 (r (y 0)) (y 1)) - X y) * (T (ix2 (r (y 0)) (y 1)) - X y)

/-- The mean of the squares: their sum times 2⁻²⁰. -/
noncomputable def meanSq (X : Rows.Idx → EReal) (T : Codes.Idx → EReal) (r : Fin 16384 → Fin 8192) : EReal :=
  (∑ y, sqErr X T r y) * Ideal.ofBits .f32 0x35800000#32

/-! ### A block's payloads at an index -/

theorem pay3_apply (x q : Vec Ideal S256x64 .f32) (y : S256x64.Idx) : (k0_pay3 x q y : EReal) = x y + (q y - x y) := by
  unfold k0_pay3 k0_pay2
  simp only [shapeCast_id]
  rfl

theorem pay5_apply (x q : Vec Ideal S256x64 .f32) (a : Vec Ideal S1x1 .f32) (j : S1x1.Idx) :
    (k0_pay5 x q a j : EReal) = a j + ∑ y : S256x64.Idx, (q y - x y : EReal) * (q y - x y) := by
  unfold k0_pay5 k0_pay2
  simp only [shapeCast_id]
  show (a j : EReal) + _ = _
  refine congrArg (a j + ·) ((Ideal.multiReduction_add_total (φ := .f32) _ 0x00000000#32 _ (fun b => ?_) (.inl rfl) rfl _).trans ?_)
  · match b with | ⟨0, _⟩ => rfl
  · exact Equiv.sum_comp (Shape.reshapeEquiv _) fun y : S256x64.Idx => (q y - x y : EReal) * (q y - x y)

theorem pay6_apply (a : Vec Ideal S1x1 .f32) (j : S1x1.Idx) : (k0_pay6 a j : EReal) = a j * Ideal.ofBits .f32 0x35800000#32 := by
  unfold k0_pay6
  simp only [shapeCast_id]
  rfl

theorem pay4_apply (j : S1x1.Idx) : (k0_pay4 (F := Ideal) j : EReal) = 0 := Ideal.ofBits_zero_f32

/-! ### The running total at the last point -/

theorem atFirst_iff : ∀ t : Fin grid0.N, AtFirst (grid0.coords t) ↔ t.val = 0 := by decide +kernel
theorem atLast_iff : ∀ t : Fin grid0.N, AtLast (grid0.coords t) ↔ t.val = 63 := by decide +kernel

/-- The squares of block `n`, summed. -/
noncomputable def blockErr (X : Rows.Idx → EReal) (T : Codes.Idx → EReal) (r : Fin 16384 → Fin 8192) (n : ℕ) : EReal :=
  ∑ y : S256x64.Idx, if h : n * 256 + (y 0).val < 16384 then sqErr X T r (ix2 ⟨n * 256 + (y 0).val, h⟩ (y 1)) else 0

/-- The blocks' sums, summed, are the sum over the array. -/
theorem sum_blockErr (X : Rows.Idx → EReal) (T : Codes.Idx → EReal) (r : Fin 16384 → Fin 8192) :
    ∑ n ∈ Finset.range 64, blockErr X T r n = ∑ y, sqErr X T r y := by
  have key := Fin.sum_univ_univ_mul_add 64 256 fun l => if h : l < 16384 then ∑ k : Fin 64, sqErr X T r (ix2 ⟨l, h⟩ k) else 0
  rw [ValueIdx.sum_idx2]
  refine Eq.trans ?_ (key.trans (Finset.sum_congr rfl fun i _ => dif_pos i.isLt))
  rw [← Fin.sum_univ_eq_sum_range]
  refine Finset.sum_congr rfl fun n _ => ?_
  unfold blockErr
  rw [ValueIdx.sum_idx2]
  refine Finset.sum_congr rfl fun s _ => ?_
  have h : n.val * 256 + s.val < 16384 := by have := n.isLt; have := s.isLt; omega
  rw [dif_pos h]
  exact Finset.sum_congr rfl fun k _ => dif_pos h

/-- The totals of a run whose blocks are those of the arrays end at `meanSq`. -/
theorem totals_end (X : Rows.Idx → EReal) (T : Codes.Idx → EReal) (r : Fin 16384 → Fin 8192)
    (x q : (n : ℕ) → n < grid0.N → Vec Ideal S256x64 .f32) (S : ℕ → Vec Ideal S1x1 .f32) (h0 : S 0 = k0_pay4 (F := Ideal))
    (hS : ∀ n (h : n < grid0.N), S (n + 1) = total (grid0.coords ⟨n, h⟩) (x n h) (q n h) (S n))
    (hx : ∀ n h (y : S256x64.Idx) (i : Fin 16384), i.val = n * 256 + (y 0).val → x n h y = X (ix2 i (y 1)))
    (hq : ∀ n h (y : S256x64.Idx) (i : Fin 16384), i.val = n * 256 + (y 0).val → q n h y = T (ix2 (r i) (y 1))) (j : S1x1.Idx) :
    S 64 j = meanSq X T r := by
  have hN : grid0.N = 64 := by decide
  have step : ∀ n (h : n < grid0.N), (k0_pay5 (x n h) (q n h) (start (grid0.coords ⟨n, h⟩) (S n)) j : EReal)
      = start (grid0.coords ⟨n, h⟩) (S n) j + blockErr X T r n := fun n h => by
    rw [pay5_apply]
    refine congrArg (start (grid0.coords ⟨n, h⟩) (S n) j + ·) (Finset.sum_congr rfl fun y _ => ?_)
    have hl : n * 256 + (y 0).val < 16384 := by have : (y 0).val < 256 := (y 0).isLt; omega
    rw [dif_pos hl, hx n h y ⟨_, hl⟩ rfl, hq n h y ⟨_, hl⟩ rfl]
    rfl
  have begins : ∀ n (h : n < grid0.N), (S n j : EReal) = ∑ i ∈ Finset.range n, blockErr X T r i →
      (start (grid0.coords ⟨n, h⟩) (S n) j : EReal) = ∑ i ∈ Finset.range n, blockErr X T r i := fun n h e => by
    unfold start
    by_cases hn : n = 0
    · subst hn
      rw [if_pos ((atFirst_iff ⟨0, h⟩).mpr rfl), pay4_apply]
      rfl
    · rw [if_neg fun a => hn ((atFirst_iff ⟨n, h⟩).mp a), e]
  have sums : ∀ n, n ≤ 63 → (S n j : EReal) = ∑ i ∈ Finset.range n, blockErr X T r i := fun n => by
    induction n with
    | zero => intro _; rw [h0]; exact pay4_apply j
    | succ n ih =>
      intro hn
      have h : n < grid0.N := by omega
      rw [hS n h]
      unfold total
      rw [if_neg fun a => (by have := (atLast_iff ⟨n, h⟩).mp a; simp only at this; omega), step, begins n h (ih (by omega)),
        Finset.sum_range_succ]
  have h63 : 63 < grid0.N := by omega
  rw [hS 63 h63]
  unfold total
  rw [if_pos ((atLast_iff ⟨63, h63⟩).mpr rfl), pay6_apply, step, begins 63 h63 (sums 63 le_rfl), ← Finset.sum_range_succ,
    sum_blockErr]
  rfl

end LookupSpec
-- ==== Proof.LookupHost.lean ====
/-
  The host's text for the second call's results, read as `LookupSpec.quantized` and `LookupSpec.meanSq`.

  The reference takes rows by number: a negative number counts from the end, a number past the end gives the fill value.
  Given numbers from 0 to 8191 neither happens and what is taken is the named row.
-/
module

public import proofs.«01_k».proof.Proof.LookupSpec
public import proofs.«01_k».proof.Proof.Gen.LookupRefIdeal

@[expose] public section

namespace LookupHost

open Idealize.ShloMosaic hiding ix0 ix1 ix2
open Idealize.ShloMosaic.ValueIdx LookupSpec
open Cert.LookupRefIdeal Cert.LookupRefIdeal.Facts₀
open scoped BigOperators

variable (T : Codes.Idx → EReal) (I : IVec S16x1024 32) (hI : ∀ y, (I y).toNat < 8192)

include hI in
/-- A number below 8192 isn't negative, so it stays. -/
theorem wrap_eq : select (cmpi .slt I (broadcastInDim S16x1024 ![] bcast_S_S16x1024 (constantI S_ 32 0#32)))
    (addi I (broadcastInDim S16x1024 ![] bcast_S_S16x1024 (constantI S_ 32 8192#32))) I = I := by
  funext y
  have h : cmpi .slt I (broadcastInDim S16x1024 ![] bcast_S_S16x1024 (constantI S_ 32 0#32)) y = 0#1 := by
    show BitVec.ofBool ((I y).slt 0#32) = 0#1
    have := hI y
    have e : (I y).slt 0#32 = false := by
      simp only [BitVec.slt, decide_eq_false_iff_not, BitVec.toInt, BitVec.toNat_ofNat]; omega
    rw [e]; rfl
  show Scalar.select (cmpi .slt I _ y) _ (I y) = I y
  rw [h]; rfl

/-- The numbers as the row-taking reads them: a last axis of extent 1. -/
abbrev starts : IVec S16x1024x1 32 := broadcastInDim S16x1024x1 ![0, 1] bcast_S16x1024_S16x1024x1_0_1 I

theorem starts_apply (y : S16x1024x1.Idx) : starts I y = I (ix2 (y 0) (y 1)) :=
  broadcastInDim_apply _ _ _ y (ix2 (y 0) (y 1)) (fun a => by match a with | ⟨0, _⟩ => rfl | ⟨1, _⟩ => rfl)

include hI in
/-- No number is out of range. -/
theorem mask_eq (y : S16x1024.Idx) : Host.reduce IntOp.andi (andi
      (cmpi .sge (starts I) (broadcastInDim S16x1024x1 ![] bcast_S_S16x1024x1 (constantI S_ 32 0#32)))
      (cmpi .sle (starts I) (broadcastInDim S16x1024x1 ![0, 1, 2] bcast_S1x1x1_S16x1024x1_0_1_2
        (broadcastInDim S1x1x1 ![2] bcast_S1_S1x1x1_2 (constantI S1 32 8191#32)))))
      (constantI S_ 1 1#1) reducesTo_S16x1024x1_S16x1024_d2 h_S_ y = 1#1 := by
  refine Host.reduce_andi_one _ _ _ _ _ rfl fun i => ?_
  have h := hI (ix2 (i 0) (i 1))
  rw [← starts_apply I i] at h
  show IntOp.andi (BitVec.ofBool ((0#32).sle (starts I i))) (BitVec.ofBool ((starts I i).sle 8191#32)) = 1#1
  generalize starts I i = v at h ⊢
  have e1 : (0#32).sle v = true := by
    simp only [BitVec.sle, decide_eq_true_eq, BitVec.toInt, BitVec.toNat_ofNat]; omega
  have e2 : v.sle 8191#32 = true := by
    simp only [BitVec.sle, decide_eq_true_eq, BitVec.toInt, BitVec.toNat_ofNat]; omega
  rw [e1, e2]; rfl

/-- The row-taking's dimension numbers. -/
abbrev rowDims (wf : GatherDims.WF S8192x64 S16x1024x1 S16x1024x64 [2] [0] [] [0] [] 2 ![1, 64]) : GatherDims S8192x64 S16x1024x1 S16x1024x64 where
  offsetDims := [2]
  collapsedSliceDims := [0]
  operandBatchingDims := []
  startIndicesBatchingDims := []
  startIndexMap := [0]
  indexVectorDim := 2
  sliceSizes := ![1, 64]
  wf := wf

/-- The row: the number at the index, read signed and clamped. -/
theorem row_coord (wf) (y : S16x1024x64.Idx) : (rowDims wf).start y (starts I) 0 + (rowDims wf).batchCoord y 0 + (rowDims wf).offCoord y 0
    = min (I (ix2 (y 0) (y 1))).toInt.toNat 8191 := by
  rw [GatherDims.batchCoord_eq_zero _ _ _ (fun h => by simp at h),
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims wf).startIndexMap from List.mem_singleton.mpr rfl)]
  have hs : (rowDims wf).siIdx y ⟨List.idxOf (0 : Fin 2) (rowDims wf).startIndexMap, List.idxOf_lt_length_iff.2 (List.mem_singleton.mpr rfl)⟩
      = ValueIdx.ix3 (y 0) (y 1) (0 : Fin 1) := by
    funext b; refine Fin.ext ?_
    match b with
    | ⟨0, _⟩ => rfl
    | ⟨1, _⟩ => rfl
    | ⟨2, _⟩ => rfl
  rw [hs]
  exact congrArg (fun v : BitVec 32 => min v.toInt.toNat 8191) (starts_apply I _)

/-- The column: the result's own last coordinate. -/
theorem col_coord (wf) (y : S16x1024x64.Idx) : (rowDims wf).start y (starts I) 1 + (rowDims wf).batchCoord y 1 + (rowDims wf).offCoord y 1
    = (y 2).val := by
  rw [GatherDims.batchCoord_eq_zero _ _ _ (fun h => by simp at h)]
  unfold GatherDims.start
  rw [dif_neg (show ¬ (1 : Fin 2) ∈ (rowDims wf).startIndexMap from fun h => absurd (List.mem_singleton.mp h) (by decide))]
  simp only [Nat.zero_add]
  unfold GatherDims.offCoord
  rw [dif_pos ((GatherDims.mem_sKept _ _).mpr ⟨fun h => absurd (List.mem_singleton.mp h) (by decide), fun h => by simp at h⟩)]
  rfl

include hI in
/-- A row taken is the row named. -/
theorem gather_apply (y : S16x1024x64.Idx) :
    Host.gather gather_S8192x64_S16x1024x1_S16x1024x64_2_0_n_n_0_2_164 T (starts I) y
      = T (ix2 ⟨(I (ix2 (y 0) (y 1))).toNat, hI _⟩ (y 2)) := by
  have wf := gather_S8192x64_S16x1024x1_S16x1024x64_2_0_n_n_0_2_164_wf
  show Host.gather (rowDims wf) T (starts I) y = _
  unfold Host.gather
  refine congrArg T (funext fun a => Fin.ext ?_)
  have h01 : a = 0 ∨ a = 1 := by
    match a with
    | ⟨0, _⟩ => exact Or.inl rfl
    | ⟨1, _⟩ => exact Or.inr rfl
  rcases h01 with rfl | rfl
  · refine (row_coord I wf y).trans ?_
    have h := hI (ix2 (y 0) (y 1))
    show min (I (ix2 (y 0) (y 1))).toInt.toNat 8191 = (I (ix2 (y 0) (y 1))).toNat
    generalize I (ix2 (y 0) (y 1)) = v at h ⊢
    simp only [BitVec.toInt]; omega
  · exact col_coord I wf y

/-- Where the choice's bit is 1 it reads its first. -/
theorem select_one {s : Shape} {α : Type} (c : IVec s 1) (u v : s.Idx → α) (y : s.Idx) (h : c y = 1#1) : select c u v y = u y := by
  unfold select Scalar.select
  rw [h]; rfl

include hI in
/-- What is taken at an index: the entry of the named row. -/
theorem take_apply (y : S16x1024x64.Idx) : select (broadcastInDim S16x1024x64 ![0, 1] bcast_S16x1024_S16x1024x64_0_1 (Host.reduce IntOp.andi (andi
      (cmpi .sge (starts I) (broadcastInDim S16x1024x1 ![] bcast_S_S16x1024x1 (constantI S_ 32 0#32)))
      (cmpi .sle (starts I) (broadcastInDim S16x1024x1 ![0, 1, 2] bcast_S1x1x1_S16x1024x1_0_1_2
        (broadcastInDim S1x1x1 ![2] bcast_S1_S1x1x1_2 (constantI S1 32 8191#32)))))
      (constantI S_ 1 1#1) reducesTo_S16x1024x1_S16x1024_d2 h_S_))
      (Host.gather gather_S8192x64_S16x1024x1_S16x1024x64_2_0_n_n_0_2_164 T (starts I))
      (broadcastInDim S16x1024x64 ![] bcast_S_S16x1024x64 (constant (F := Ideal) S_ .f32 0x7FC00000#32)) y
      = T (ix2 ⟨(I (ix2 (y 0) (y 1))).toNat, hI _⟩ (y 2)) := by
  refine (select_one _ _ _ y ?_).trans (gather_apply T I hI y)
  refine (broadcastInDim_apply _ _ _ y (ix2 (y 0) (y 1)) (fun a => by match a with | ⟨0, _⟩ => rfl | ⟨1, _⟩ => rfl)).trans ?_
  exact mask_eq I hI _

/-- The text of the row-taking. -/
noncomputable abbrev taken (T : FVec Ideal S8192x64 .f32) (I : IVec S16x1024 32) : FVec Ideal S16x1024x64 .f32 :=
  let J := starts (select (cmpi .slt I (broadcastInDim S16x1024 ![] bcast_S_S16x1024 (constantI S_ 32 0#32)))
    (addi I (broadcastInDim S16x1024 ![] bcast_S_S16x1024 (constantI S_ 32 8192#32))) I)
  select (broadcastInDim S16x1024x64 ![0, 1] bcast_S16x1024_S16x1024x64_0_1 (Host.reduce IntOp.andi (andi
      (cmpi .sge J (broadcastInDim S16x1024x1 ![] bcast_S_S16x1024x1 (constantI S_ 32 0#32)))
      (cmpi .sle J (broadcastInDim S16x1024x1 ![0, 1, 2] bcast_S1x1x1_S16x1024x1_0_1_2
        (broadcastInDim S1x1x1 ![2] bcast_S1_S1x1x1_2 (constantI S1 32 8191#32)))))
      (constantI S_ 1 1#1) reducesTo_S16x1024x1_S16x1024_d2 h_S_))
    (Host.gather gather_S8192x64_S16x1024x1_S16x1024x64_2_0_n_n_0_2_164 T J)
    (broadcastInDim S16x1024x64 ![] bcast_S_S16x1024x64 (constant (F := Ideal) S_ .f32 0x7FC00000#32))

/-- Numbers given as a column, each merged index naming the row its number says. -/
abbrev named (N : IVec (⟨2, ![16384, 1]⟩ : Shape) 32) (hN : ∀ y, (N y).toNat < 8192) (i : Fin 16384) : Fin 8192 := ⟨(N (ix2 i 0)).toNat, hN _⟩

/-- Taking by a column of numbers, laid out in two axes, takes at a merged index the row it names. -/
theorem taken_apply (N : IVec S16384x1 32) (hN : ∀ y, (N y).toNat < 8192) (h : S16384x1.ShapeCasts S16x1024)
    (a : Fin 16) (b : Fin 1024) (k : Fin 64) (i : Fin 16384) (hi : i.val = a.val * 1024 + b.val) :
    taken T (shapeCast S16x1024 N h) (ValueIdx.ix3 a b k) = T (ix2 (named N hN i) k) := by
  have hI : ∀ y, (shapeCast S16x1024 N h y).toNat < 8192 := fun y => hN _
  have e : shapeCast S16x1024 N h (ix2 a b) = N (ix2 i 0) := by
    refine shapeCast_apply _ _ _ _ ?_
    rw [rowMajor_val2 _ 1 rfl, rowMajor_val2 _ 1024 rfl]
    show i.val * 1 + 0 = a.val * 1024 + b.val
    omega
  unfold taken
  simp only [wrap_eq _ hI]
  refine (take_apply T _ hI (ValueIdx.ix3 a b k)).trans (congrArg (fun r => T (ix2 r k)) (Fin.ext ?_))
  show (shapeCast S16x1024 N h (ix2 a b)).toNat = (N (ix2 i 0)).toNat
  rw [e]

/-! ### The two results -/

variable (X : FVec Ideal S16x1024x64 .f32) (Q : FVec Ideal S16x1024x64 .f32) (r : Fin 16384 → Fin 8192)
  (hQ : ∀ (a : Fin 16) (b : Fin 1024) (k : Fin 64) (i : Fin 16384), i.val = a.val * 1024 + b.val → Q (ValueIdx.ix3 a b k) = T (ix2 (r i) k))

/-- The index of the three-axis array that a merged index reads. -/
theorem split_eq (h : S16x1024x64.ShapeCasts Rows) (y : Rows.Idx) (Y : FVec Ideal S16x1024x64 .f32) :
    ∃ (a : Fin 16) (b : Fin 1024), (y 0).val = a.val * 1024 + b.val ∧ shapeCast Rows Y h y = Y (ValueIdx.ix3 a b (y 1)) := by
  have h0 : (y 0).val < 16384 := (y 0).isLt
  refine ⟨⟨(y 0).val / 1024, by omega⟩, ⟨(y 0).val % 1024, by omega⟩, by simp only; omega, ?_⟩
  refine shapeCast_apply _ _ _ _ ?_
  rw [rowMajor_val3 _ 65536 64 rfl rfl, rowMajor_val2 _ 64 rfl]
  show (y 0).val / 1024 * 65536 + (y 0).val % 1024 * 64 + (y 1).val = (y 0).val * 64 + (y 1).val
  omega

include hQ in
theorem rows_of_take (h : S16x1024x64.ShapeCasts Rows) (y : Rows.Idx) : shapeCast Rows Q h y = T (ix2 (r (y 0)) (y 1)) := by
  obtain ⟨a, b, e, hy⟩ := split_eq h y Q
  rw [hy]
  exact hQ a b (y 1) (y 0) e

include hQ in
/-- The first result. -/
theorem quantized_eq (h : S16x1024x64.ShapeCasts Rows) :
    shapeCast Rows (addf X (subf Q X)) h = quantized (shapeCast Rows X h) T r := by
  funext y
  have e := rows_of_take T Q r hQ h y
  show shapeCast Rows X h y + (shapeCast Rows Q h y - shapeCast Rows X h y) = _
  rw [e]; rfl

theorem ofBits_count : Ideal.ofBits .f32 0x49800000#32 = ((1048576 : ℝ) : EReal) := by
  simp [Ideal.ofBits, Ideal.ieee, -EReal.coe_mul]; norm_num
theorem ofBits_one_over : Ideal.ofBits .f32 0x35800000#32 = ((1 / 1048576 : ℝ) : EReal) := by
  simp [Ideal.ofBits, Ideal.ieee, -EReal.coe_mul]; norm_num

include hQ in
/-- The second result, at the one index of an array of rank 0. -/
theorem meanSq_eq (h : S16x1024x64.ShapeCasts Rows) (j : S_.Idx) :
    Host.divf (Host.reduceAdd (mulf (subf Q X) (subf Q X)) (constant (F := Ideal) S_ .f32 0x00000000#32) reducesTo_S16x1024x64_S_d0_1_2 h_S_)
      (constant (F := Ideal) S_ .f32 0x49800000#32) j = meanSq (shapeCast Rows X h) T r := by
  show Ideal.div (Ideal.hostReduceAdd _ (mulf (subf Q X) (subf Q X)) (Ideal.ofBits .f32 0x00000000#32) j) (Ideal.ofBits .f32 0x49800000#32) = _
  rw [Ideal.hostReduceAdd_total _ (fun b => b.elim0), Ideal.ofBits_zero_f32, zero_add, ofBits_count, Ideal.div_coe (by norm_num)]
  unfold meanSq
  rw [ofBits_one_over]
  refine congrArg (· * ((1 / 1048576 : ℝ) : EReal)) ?_
  refine ((Equiv.sum_comp (Shape.reshapeEquiv h) (fun z : S16x1024x64.Idx => (Q z - X z : EReal) * (Q z - X z))).symm.trans
    (Finset.sum_congr rfl fun y _ => ?_))
  have e := rows_of_take T Q r hQ h y
  show (shapeCast Rows Q h y - shapeCast Rows X h y : EReal) * (shapeCast Rows Q h y - shapeCast Rows X h y) = _
  rw [e]; rfl

end LookupHost
-- ==== Proof.LookupValue.lean ====
/-
  What the second call leaves in its results: `quantized` and `meanSq` of its arguments, the row of an index being the one
  the index array names.

  Grid point `t` writes rows `256 t … 256 t + 255` of the first result; the second is written once, after the last point.
-/
module

public import proofs.«01_k».proof.Proof.LookupHost
public import proofs.«01_k».proof.Proof.LookupRun
public import proofs.«01_k».proof.Proof.Gen.Pre_in_range
public import Idealize.ShloMosaic.Lib.Pipeline.ValueKit.Geometry
public import Idealize.ShloMosaic.Lib.Pipeline.ValueKit

@[expose] public section

namespace LookupValue

open Idealize.ShloMosaic hiding ix0 ix1 ix2
open Idealize.ShloMosaic.TcCoe Idealize.ShloMosaic.ValueIdx Idealize.SL.Sem
open Cert.LookupIdeal Cert.LookupIdeal.Gen LookupBody LookupRun LookupSpec LookupHost
open scoped BigOperators

/-! ### The indices' range -/

section Range

variable {F : FTy → Type} [FloatOps F]

/-- The precondition says each index is below 8192. -/
theorem lt_of_pre (N : IVec S16384x1 32) (x : FVec F S16x1024x64 .f32) (e : FVec F S64x8192 .f32)
    (h : Cert.Pre_in_range.fn N x e = fun _ => 1#1) (y : S16384x1.Idx) : (N y).toNat < 8192 := by
  have andi_ofBool : ∀ a b : Bool, IntOp.andi (BitVec.ofBool a) (BitVec.ofBool b) = BitVec.ofBool (a && b) := by decide
  have ofBool_one : ∀ a : Bool, BitVec.ofBool a = 1#1 → a = true := by decide
  have e := congrFun h y
  have e' : IntOp.andi (BitVec.ofBool ((0#32).sle (N y))) (BitVec.ofBool ((N y).slt 8192#32)) = 1#1 := e
  rw [andi_ofBool] at e'
  have e2 := ofBool_one _ e'
  rw [Bool.and_eq_true] at e2
  obtain ⟨hge, hlt⟩ := e2
  simp only [BitVec.sle, BitVec.slt, decide_eq_true_eq, BitVec.toInt, BitVec.toNat_ofNat] at hge hlt
  omega

variable (m : (ℓ : Loc nD τ sig) → Buf (Elt F) ℓ)

/-- The table the call reads: the index array with its axis of extent 1 dropped. -/
theorem words_eq (c : Dev nD) : words m c = shapeCast S16384 (m ((c : Thread nD τ).loc main_arg0)) shapeCasts_S16384x1_S16384 := by
  unfold words V; after_reads_simp; rfl

theorem inRange (c : Dev nD) (h : ∀ y, ((m ((c : Thread nD τ).loc main_arg0) : IVec S16384x1 32) y).toNat < 8192) : InRange (words m c) := by
  intro y
  rw [words_eq]
  exact h _

theorem drop_apply (N : IVec S16384x1 32) (i : Fin 16384) : shapeCast S16384 N shapeCasts_S16384x1_S16384 (ix1 i) = N (ix2 i 0) := by
  refine shapeCast_apply _ _ _ _ ?_
  rw [rowMajor_val2 _ 1 rfl, rowMajor_val1]
  show i.val * 1 + 0 = i.val
  omega

theorem words_apply (c : Dev nD) (i : Fin 16384) : words m c (ix1 i) = (m ((c : Thread nD τ).loc main_arg0) : IVec S16384x1 32) (ix2 i 0) := by
  rw [words_eq]
  exact drop_apply _ i

end Range

/-! ### The arrays -/

variable (m : (ℓ : Loc nD τ sig) → Buf (Elt Ideal) ℓ) (ρ : Dev nD → PrngReg)

/-- The vectors, their leading axes merged. -/
noncomputable abbrev vectors (c : Dev nD) : Rows.Idx → EReal :=
  shapeCast S16384x64 (m ((c : Thread nD τ).loc main_arg1)) shapeCasts_S16x1024x64_S16384x64

/-- The codes, one to a row. -/
noncomputable abbrev codes (c : Dev nD) : Codes.Idx → EReal :=
  transpose S8192x64 [1, 0] (m ((c : Thread nD τ).loc main_arg2)) transposes_S64x8192_S8192x64_1_0

theorem V_vectors (c : Dev nD) : V m c main_v0 = vectors m c := by
  unfold V; after_reads_simp; rfl

theorem V_codes (c : Dev nD) : V m c main_v1 = codes m c := by
  unfold V; after_reads_simp

/-! ### The blocks of a point, read at an index -/

theorem trans0 : ∀ t : Fin grid0.N, cc0_transform_0 (grid0.coords t) = ![t.val, 0] := by decide +kernel
theorem trans1 : ∀ t : Fin grid0.N, cc0_transform_1 (grid0.coords t) = ![0, 0] := by decide +kernel
theorem trans2 : ∀ t : Fin grid0.N, cc0_transform_2 (grid0.coords t) = ![t.val, 0] := by decide +kernel
theorem trans3 : ∀ t : Fin grid0.N, cc0_transform_3 (grid0.coords t) = ![0, 0] := by decide +kernel
theorem coord : ∀ t : Fin grid0.N, (grid0.coords t 0).val = t.val := by decide +kernel

theorem at_zero {k b y : ℕ} (h : k = 0) : k * b + y = y := by subst h; omega
theorem at_point {k t b y i : ℕ} (h : k = t) (hi : i = t * b + y) : k * b + y = i := by subst h; exact hi.symm

theorem block0 (c : Dev nD) (t : Fin (cf m).N) (y : S256x64.Idx) (i : Fin 16384) (hi : i.val = t.val * 256 + (y 0).val) :
    blockAt m c 0 t y = vectors m c (ix2 i (y 1)) := by
  rw [← V_vectors]
  show V m c main_v0 ((((cf m).win 0).blk t).view.emb y) = _
  refine congrArg _ (funext fun a => Fin.ext ?_)
  match a with
  | ⟨0, _⟩ => blk_simp; exact at_point (congrFun (trans0 t) 0) hi
  | ⟨1, _⟩ => blk_simp; exact at_zero (congrFun (trans0 t) 1)

theorem block1 (c : Dev nD) (t : Fin (cf m).N) (y : S8192x64.Idx) : blockAt m c 1 t y = codes m c y := by
  rw [← V_codes]
  show V m c main_v1 ((((cf m).win 1).blk t).view.emb y) = _
  refine congrArg _ (funext fun a => Fin.ext ?_)
  match a with
  | ⟨0, _⟩ => blk_simp; exact at_zero (congrFun (trans1 t) 0)
  | ⟨1, _⟩ => blk_simp; exact at_zero (congrFun (trans1 t) 1)

/-- Where the first result's block of point `t` puts its entries. -/
theorem emb2 (t : Fin (cf m).N) (y : S256x64.Idx) (i : Fin 16384) (hi : i.val = t.val * 256 + (y 0).val) :
    ((((cf m).win 2).blk t).view.emb y : S16384x64.Idx) = ix2 i (y 1) := by
  refine funext fun a => Fin.ext ?_
  match a with
  | ⟨0, _⟩ => blk_simp; exact at_point (congrFun (trans2 t) 0) hi
  | ⟨1, _⟩ => blk_simp; exact at_zero (congrFun (trans2 t) 1)

section Values

variable (hN : ∀ c y, ((m ((Dev.tc c : Thread nD τ).loc main_arg0) : IVec S16384x1 32) y).toNat < 8192)

abbrev hw (c : Dev nD) : InRange (words m c) := inRange m c (hN c)

/-- The row an index names. -/
abbrev rowNamed (c : Dev nD) : Fin 16384 → Fin 8192 := named (m ((c : Thread nD τ).loc main_arg0)) (hN c)

theorem rows_apply (c : Dev nD) (t : Fin (cf m).N) (y : S256x64.Idx) (i : Fin 16384) (hi : i.val = t.val * 256 + (y 0).val) :
    rowsAt m (hw m hN) c t y = codes m c (ix2 (rowNamed m hN c i) (y 1)) := by
  unfold rowsAt rows
  rw [block1]
  refine congrArg (fun r => codes m c (ix2 r (y 1))) (Fin.ext ?_)
  show (words m c (wordAt (grid0.coords t) (y 0))).toNat = ((m ((c : Thread nD τ).loc main_arg0) : IVec S16384x1 32) (ix2 i 0)).toNat
  refine (congrArg (fun k => (words m c (ix1 k)).toNat) (Fin.ext ?_ : _ = i)).trans (congrArg BitVec.toNat (words_apply m c i))
  show 256 * (grid0.coords t 0).val + (y 0).val = i.val
  rw [coord t, hi, Nat.mul_comm]

/-- An admissible table, any. -/
def someTable : (pcfg0 (F := Ideal)).Adm := ⟨fun k => match k with | ⟨0, _⟩ => fun _ => (0#32 : BitVec 32), trivial⟩
theorem covers_some : ((cfg0 someTable).win 2).Covers := by decide +kernel
theorem covers : ((cf m).win 2).Covers := covers_some
/-- The last point. -/
abbrev lastPt : Fin grid0.N := ⟨63, by decide⟩
theorem whole_some : ((cfg0 someTable).win 3).WholeAt lastPt := by decide +kernel
theorem whole : ((cf m).win 3).WholeAt lastPt := whole_some

/-- An entry of the first result, from the point that writes it. -/
theorem out_entry (c : Dev nD) (t : Fin (cf m).N) (y : S256x64.Idx) : (k0_pay3 (blockAt m c 0 t) (rowsAt m (hw m hN) c t) y : EReal)
    = quantized (vectors m c) (codes m c) (rowNamed m hN c) ((((cf m).win 2).blk t).view.emb y) := by
  have hl : t.val * 256 + (y 0).val < 16384 := by
    have h1 : (y 0).val < 256 := (y 0).isLt
    have h2 : t.val < 64 := lt_of_lt_of_eq t.isLt N_0
    omega
  rw [emb2 m t y ⟨_, hl⟩ rfl]
  exact (pay3_apply _ _ y).trans (congrArg₂ (fun a b : EReal => a + (b - a)) (block0 m c t y ⟨_, hl⟩ rfl) (rows_apply m hN c t y ⟨_, hl⟩ rfl))

/-- The first result after the grid. -/
theorem out_eq (c : Dev nD) : (dats m (hw m hN) 0 c).arrAt 2 (cf m).N = quantized (vectors m c) (codes m c) (rowNamed m hN c) := by
  refine (dats m (hw m hN) 0 c).arrAt_eq_of_covers 2 _ (covers m) fun t hf y => ?_
  blk_simp
  rw [after_2]
  exact out_entry m hN c t y

/-- The second result after the grid. -/
theorem sum_eq (c : Dev nD) : (dats m (hw m hN) 0 c).arrAt 3 (cf m).N = fun _ => meanSq (vectors m c) (codes m c) (rowNamed m hN c) := by
  refine (dats m (hw m hN) 0 c).arrAt_eq_of_after_last 3 lastPt (whole m) _ fun j => ?_
  blk_simp
  rw [after_3]
  exact totals_end (vectors m c) (codes m c) (rowNamed m hN c) (fun n h => blockAt m c 0 ⟨n, h⟩) (fun n h => rowsAt m (hw m hN) c ⟨n, h⟩)
    (totalUpto m (hw m hN) c) rfl (fun n h => by rw [totalUpto, dif_pos h]) (fun n h y i hi => block0 m c ⟨n, h⟩ y i hi)
    (fun n h y i hi => rows_apply m hN c ⟨n, h⟩ y i hi) _

/-- The run: the two results, and the arguments as they were. -/
theorem run : θ_run defs (onTc (τ := τ) (main (F := Ideal))) ⟨m, fun _ => 0, ρ⟩ fun r => ∀ c : Dev nD,
      r.2.mem ((c : Thread nD τ).loc main_v3_0) = quantized (vectors m c) (codes m c) (rowNamed m hN c)
      ∧ r.2.mem ((c : Thread nD τ).loc main_v3_1) = (fun _ => meanSq (vectors m c) (codes m c) (rowNamed m hN c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (out_eq m hN c), ((h.1 c).1 3).trans (sum_eq m hN c),
      ((h.1 c).2 main_arg0 rest0).trans (V_arg m c _ (by decide) (by decide) (by decide)),
      ((h.1 c).2 main_arg1 rest1).trans (V_arg m c _ (by decide) (by decide) (by decide)),
      ((h.1 c).2 main_arg2 rest2).trans (V_arg m c _ (by decide) (by decide) (by decide))⟩)
    (LookupRun.run m ρ (hw m hN))

end Values

end LookupValue
-- ==== Proof.LookupRefRun.lean ====
/-
  The run of the second call's reference, its results read as `quantized` and `meanSq` of its arguments.
-/
module

public import proofs.«01_k».proof.Proof.LookupHost
public import proofs.«01_k».proof.Proof.Gen.LookupRefIdeal.Run

@[expose] public section

namespace LookupRefRun

open Idealize.ShloMosaic hiding ix0 ix1 ix2
open Idealize.ShloMosaic.TcCoe Idealize.ShloMosaic.ValueIdx Idealize.SL.Sem
open Cert.LookupRefIdeal Cert.LookupRefIdeal.Gen LookupSpec LookupHost

variable (m : (ℓ : Loc nD τ sig) → Buf (Elt Ideal) ℓ) (ρ : Dev nD → PrngReg)
  (hN : ∀ c y, ((m ((Dev.tc c : Thread nD τ).loc main_arg0) : IVec S16384x1 32) y).toNat < 8192)

/-- The vectors, their leading axes merged. -/
noncomputable abbrev vectors (c : Dev nD) : Rows.Idx → EReal :=
  shapeCast S16384x64 (m ((c : Thread nD τ).loc main_arg1)) Facts₀.shapeCasts_S16x1024x64_S16384x64

/-- The codes, one to a row. -/
noncomputable abbrev codes (c : Dev nD) : Codes.Idx → EReal :=
  transpose S8192x64 [1, 0] (m ((c : Thread nD τ).loc main_arg2)) Facts₀.transposes_S64x8192_S8192x64_1_0

/-- The row an index names. -/
abbrev rowNamed (c : Dev nD) : Fin 16384 → Fin 8192 := named (m ((c : Thread nD τ).loc main_arg0)) (hN c)

/-- The rows the reference takes. -/
noncomputable abbrev takes (c : Dev nD) : FVec Ideal S16x1024x64 .f32 :=
  taken (codes m c) (shapeCast S16x1024 (m ((c : Thread nD τ).loc main_arg0)) Facts₀.shapeCasts_S16384x1_S16x1024)

theorem takes_apply (c : Dev nD) (a : Fin 16) (b : Fin 1024) (k : Fin 64) (i : Fin 16384) (hi : i.val = a.val * 1024 + b.val) :
    takes m c (ValueIdx.ix3 a b k) = codes m c (ix2 (rowNamed m hN c i) k) := taken_apply _ _ (hN c) _ a b k i hi

theorem mean_eq (c : Dev nD) : Value.res_main_v10 m c = fun _ => meanSq (vectors m c) (codes m c) (rowNamed m hN c) := by
  unfold Value.res_main_v10
  funext j
  exact meanSq_eq (codes m c) (m ((c : Thread nD τ).loc main_arg1)) (takes m c) (rowNamed m hN c) (takes_apply m hN c) _ _

/-- The run: the two results, and the arguments as they were. -/
theorem run : θ_run defs (onTc (τ := τ) (main (F := Ideal))) ⟨m, fun _ => 0, ρ⟩ fun r => ∀ c : Dev nD,
      r.2.mem ((c : Thread nD τ).loc main_v9) = quantized (vectors m c) (codes m c) (rowNamed m hN c)
      ∧ r.2.mem ((c : Thread nD τ).loc main_v10) = (fun _ => meanSq (vectors m c) (codes m c) (rowNamed m hN c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans
      (quantized_eq (codes m c) (m ((c : Thread nD τ).loc main_arg1)) (takes m c) (rowNamed m hN c) (takes_apply m hN c) _),
      (h c).2.1.trans (mean_eq m hN c), (h c).2.2⟩) (Value.run m ρ)

end LookupRefRun
-- ==== Proof.WholeFirst.lean ====
/-
  The first call inside the whole computation: what its grid points leave, at any floats and from any contents of the
  buffers it finds.

  Each point reads its block of the rows and of their squares, the codes and theirs, and stores the whole output block:
  the body's run and what the pipeline asks of it are stated here.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace WholeFirst

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ### The body's run -/

abbrev rowBlock : Rect S256x64 := Rect.unit (s := S256x64) ![0, 0] S256x64.size inb_S256x64_S256x64_0_0
abbrev colBlock : Rect S64x8192 := Rect.unit (s := S64x8192) ![0, 0] S64x8192.size inb_S64x8192_S64x8192_0_0
abbrev tallBlock : Rect S256x1 := Rect.unit (s := S256x1) ![0, 0] S256x1.size inb_S256x1_S256x1_0_0
abbrev wideBlock : Rect S1x8192 := Rect.unit (s := S1x8192) ![0, 0] S1x8192.size inb_S1x8192_S1x8192_0_0

/-- What the body leaves in the output block, from its four input blocks. -/
def stored (x : Vec F S256x64 .f32) (e : Vec F S64x8192 .bf16) (xx : Vec F S256x1 .f32) (ee : Vec F S1x8192 .f32) : Vec F S256x1 .i32 :=
  View.canon [⟨tallBlock, k0_pay1 (View.ld x rowBlock) (View.ld e colBlock) (View.ld xx tallBlock) (View.ld ee wideBlock)⟩]

/-- The one store fills the output block. -/
theorem stored_fills (p : Vec F S256x1 .i32) (y : S256x1.Idx) :
    ∃ pc ∈ ([⟨tallBlock, p⟩] : List (View.Piece (Elt F) S256x1 .i32)), y ∈ pc.1.set :=
  View.cover_of_tiled [⟨tallBlock, p⟩] S256x1.size (by rfl) y

set_option maxHeartbeats 1000000 in
/-- The body's run: the inputs stay, the output block is `stored` of them. -/
theorem body_run (c : Dev nD) (i : grid0.Coords)
    (a1 : Memref sig .tc .vmem S256x64 .f32) (h1 : a1.IsWhole) (a2 : Memref sig .tc .vmem S64x8192 .bf16) (h2 : a2.IsWhole)
    (a3 : Memref sig .tc .vmem S256x1 .f32) (h3 : a3.IsWhole) (a4 : Memref sig .tc .vmem S1x8192 .f32) (h4 : a4.IsWhole)
    (a5 : Memref sig .tc .vmem S256x1 .i32) (h5 : a5.IsWhole)
    (x : Vec F S256x64 .f32) (e : Vec F S64x8192 .bf16) (xx : Vec F S256x1 .f32) (ee : Vec F S1x8192 .f32) (K : PUnit → sProp 𝕄) :
    iprop(owns (c : Thread nD τ) a1 fullShare x ∗ owns (c : Thread nD τ) a2 fullShare e ∗ owns (c : Thread nD τ) a3 fullShare xx
        ∗ owns (c : Thread nD τ) a4 fullShare ee ∗ (∃ d, owns (c : Thread nD τ) a5 fullShare d)
        ∗ (iprop(owns (c : Thread nD τ) a1 fullShare x ∗ owns (c : Thread nD τ) a2 fullShare e ∗ owns (c : Thread nD τ) a3 fullShare xx
          ∗ owns (c : Thread nD τ) a4 fullShare ee ∗ owns (c : Thread nD τ) a5 fullShare (stored x e xx ee)) -∗ K ⟨⟩))
      ⊢ wp frame (wpE (defs₀ (F := F)) Variants.none c none) Set.univ (cc0__argmin_kernel i a1 h1 a2 h2 a3 h3 a4 h4 a5 h5) K := by
  simp only [cc0__argmin_kernel_eq_skeleton]
  unfold cc0__argmin_kernel_skel
  simp only [k0_part1_eq_skeleton]
  unfold owns
  iintro ⟨⟨%f1, %e1, H1⟩, ⟨%f2, %e2, H2⟩, ⟨%f3, %e3, H3⟩, ⟨%f4, %e4, H4⟩, ⟨%d5, %f5, -, H5⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_fills _)

/-! ### What each point leaves -/

variable (V : (c : Dev nD) → (b : Ref sig .tc) → Buf (Elt F) ((c : Thread nD τ).loc b))

/-- Window `w`'s block at point `t`, as the call finds its array. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the call on core `c`. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => stored (blockAt V c 0 t) (blockAt V c 1 t) (blockAt V c 2 t) (blockAt V c 3 t)
  Φ _ := Pipeline.scopedRest spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) : (dat V c).after 3 t = blockAt V c 3 t := by dsimp only [dat]
theorem after_4 (c : Dev nD) (t : Fin cfg0.N) :
    (dat V c).after 4 t = stored (blockAt V c 0 t) (blockAt V c 1 t) (blockAt V c 2 t) (blockAt V c 3 t) := by dsimp only [dat]

/-- An input's buffer holds its block at every point. -/
theorem before_0 (c : Dev nD) (t : Fin cfg0.N) (d) : (dat V c).before 0 t d = blockAt V c 0 t :=
  ((dat V c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dat V c).before 1 t d = blockAt V c 1 t :=
  ((dat V c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dat V c).before 2 t d = blockAt V c 2 t :=
  ((dat V c).before_in_eq_fetched 2 rfl (fun _ => rfl) (fun _ _ _ => rfl) (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dat V c).before 3 t d = blockAt V c 3 t :=
  ((dat V c).before_in_eq_fetched 3 rfl (fun _ => rfl) (fun _ _ _ => rfl) (fun t => by rw [after_3]; unfold Dat.blockOf blockAt; rw [A_eq]; try rfl) t d).trans
    (by unfold Dat.fetched Dat.blockOf blockAt; rw [A_eq]; try rfl)

/-! ### The body at a point -/

/-- What the body is given at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- What it gives back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body's call. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end WholeFirst
-- ==== Proof.WholeSecond.lean ====
/-
  The second call inside the whole computation: what its grid points leave, at any floats and from any contents of the
  buffers it finds whose index table is in range.

  The proof data are those of the call alone (`LookupRun`), over this program's buffers; the body's run is the same
  (`LookupBody.body_run`).
-/
module

public import proofs.«01_k».proof.Proof.LookupBody
public import proofs.«01_k».proof.Proof.Gen.KernelIdeal.Launch
public import Idealize.ShloMosaic.Lib.Pipeline.FrameBody
public import Idealize.ShloMosaic.Lib.Pipeline.Frame
public import Idealize.ShloMosaic.Lib.Claim
public import Idealize.ShloMosaic.Lib.Ring

@[expose] public section

noncomputable section

namespace WholeSecond

open Idealize.ShloMosaic hiding ix0 ix1 ix2
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen LookupBody

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The index table the call finds. -/
abbrev words (c : Dev nD) : Vec F S16384 .i32 := V c main_v10

/-- The table as the call's prefetched contents (every core's: there is one). -/
abbrev adm : (pcfg1 (F := F)).Adm := ⟨fun k => V 0 (pre1.ref k), trivial⟩
abbrev cf : Cfg sig Λ₀ := cfg1 (adm V)

/-! ### What each point leaves -/

/-- Window `w`'s block at point `t`, as the call finds its array. -/
def blockAt (c : Dev nD) (w : Fin (cf V).W) (t : Fin (cf V).N) : (((cf V).win w).xblock ((cf V).grid.coords t)).Idx → Elt F ((cf V).win w).elt :=
  (((cf V).win w).blk t).view.read (Elt F) (V c (Pipeline.arrRef spec1 w))

/-- At the first point the total starts anew, whatever its buffer held. -/
theorem total_first (i : grid1.Coords) (h : AtFirst i) (x q : Vec F S256x64 .f32) (a b : Vec F S1x1 .f32) :
    total i x q a = total i x q b := by
  unfold total start
  rw [if_pos h, if_pos h]

variable (hw : ∀ c, InRange (words V c))

/-- The rows the words of point `t` name. -/
abbrev rowsAt (c : Dev nD) (t : Fin (cf V).N) : Vec F S256x64 .f32 := rows (grid1.coords t) (hw c) (blockAt V c 1 t)

/-- The running total after the first `n` points. -/
def totalUpto (c : Dev nD) : ℕ → Vec F S1x1 .f32
  | 0 => Cert.LookupIdeal.Gen.k0_pay4
  | n + 1 => if h : n < (cf V).N then total (grid1.coords ⟨n, h⟩) (blockAt V c 0 ⟨n, h⟩) (rowsAt V hw c ⟨n, h⟩) (totalUpto c n) else totalUpto c n

/-- The proof data of the call on core `c`. -/
def dat (c : Dev nD) : Dat τ (Elt F) Unit ℕ (UR sig nD τ) ℕ (cf V) c where
  A w := V c (Pipeline.arrRef spec1 w)
  after w t := match w with
    | ⟨0, _⟩ => blockAt V c 0 t
    | ⟨1, _⟩ => blockAt V c 1 t
    | ⟨2, _⟩ => Cert.LookupIdeal.Gen.k0_pay3 (blockAt V c 0 t) (rowsAt V hw c t)
    | ⟨3, _⟩ => totalUpto V hw c (t.val + 1)
  Φ _ := iprop(Pipeline.scopedRest spec1 c ∗ Pipeline.prefHeld pre1 c (fun _ => fullShare) (adm V).1)
  q _ := fullShare
  owed _ := 0

theorem A_eq (c : Dev nD) (w : Fin (cf V).W) : (dat V hw c).A w = V c (Pipeline.arrRef spec1 w) := rfl
theorem after_0 (c : Dev nD) (t : Fin (cf V).N) : (dat V hw c).after 0 t = blockAt V c 0 t := rfl
theorem after_1 (c : Dev nD) (t : Fin (cf V).N) : (dat V hw c).after 1 t = blockAt V c 1 t := rfl
theorem after_2 (c : Dev nD) (t : Fin (cf V).N) :
    (dat V hw c).after 2 t = Cert.LookupIdeal.Gen.k0_pay3 (blockAt V c 0 t) (rowsAt V hw c t) := rfl
theorem after_3 (c : Dev nD) (t : Fin (cf V).N) : (dat V hw c).after 3 t = totalUpto V hw c (t.val + 1) := rfl

/-- An input's buffer holds its block at every point. -/
theorem before_0 (c : Dev nD) (t : Fin (cf V).N) (d) : (dat V hw c).before 0 t d = blockAt V c 0 t :=
  ((dat V hw c).before_in_eq_fetched 0 rfl (fun _ => rfl) (fun _ _ _ => rfl) (fun t => by rw [after_0]; unfold Dat.blockOf blockAt; rw [A_eq]; try rfl) t d).trans
    (by unfold Dat.fetched Dat.blockOf blockAt; rw [A_eq]; try rfl)
theorem before_1 (c : Dev nD) (t : Fin (cf V).N) (d) : (dat V hw c).before 1 t d = blockAt V c 1 t :=
  ((dat V hw c).before_in_eq_fetched 1 rfl (fun _ => rfl) (fun _ _ _ => rfl) (fun t => by rw [after_1]; unfold Dat.blockOf blockAt; rw [A_eq]; try rfl) t d).trans
    (by unfold Dat.fetched Dat.blockOf blockAt; rw [A_eq]; try rfl)

/-- The running total is written back at the last point only. -/
theorem flush_3 (t : Fin (cf V).N) : ((cf V).win 3).flush t = true ↔ t.val % 64 = 63 :=
  Pipeline.Window.flush_const ((cf V).win 3) rfl (fun _ _ => rfl) (n := 64) (m := 63) N_1 rfl t

theorem atFirst_zero : ∀ t : Fin grid1.N, AtFirst (grid1.coords t) ↔ t.val = 0 := by decide +kernel

/-- What the body finds in the running total's buffer gives, added to, the total of one more point. -/
theorem total_before (c : Dev nD) (t : Fin (cf V).N) (d) :
    total (grid1.coords t) (blockAt V c 0 t) (rowsAt V hw c t) ((dat V hw c).before 3 t d) = totalUpto V hw c (t.val + 1) := by
  have e : totalUpto V hw c (t.val + 1) = total (grid1.coords t) (blockAt V c 0 t) (rowsAt V hw c t) (totalUpto V hw c t.val) := by
    rw [totalUpto, dif_pos t.isLt]
  rw [e]
  by_cases h0 : t.val = 0
  · exact total_first _ ((atFirst_zero t).mpr h0) _ _ _ _
  · have hl : t.val < 64 := lt_of_lt_of_eq t.isLt N_1
    rw [(dat V hw c).before_out_kept 3 rfl t h0
      (by rw [Bool.eq_false_iff]; intro h; have := (flush_3 V _).mp h; simp only at this; omega) (fun _ => rfl) (fun _ _ => rfl) d, after_3]
    have : t.val - 1 + 1 = t.val := by omega
    simp only [this]

/-! ### The body at a point -/

/-- Window `w`'s staging buffer at point `t`. -/
abbrev slot (w : Fin 4) (t : Fin (cf V).N) := ((cf V).win w).stage ((cf V).slots t w)

/-- The body's call at point `t`. -/
abbrev bodyAt (t : Fin (cf V).N) : Prog (TpuEff nD τ sig (Elt F) Λ₀ .tc) PUnit :=
  LookupBody.body (F := F) (grid1.coords t) (Memref.whole main_v10) (slot V 0 t) (slot V 1 t) (slot V 2 t) (slot V 3 t) (Memref.whole cc1_scratch0)

/-- What the body is given at point `t`. -/
def bodyPre (c : Dev nD) (t : Fin (cf V).N) : sProp 𝕄 :=
  iprop((dat V hw c).Φ t.castSucc ∗ (dat V hw c).owesAt () t.castSucc
    ∗ (∃ d, owns (c : Thread nD τ) (slot V 0 t) fullShare ((dat V hw c).before 0 t d))
    ∗ (∃ d, owns (c : Thread nD τ) (slot V 1 t) fullShare ((dat V hw c).before 1 t d))
    ∗ (∃ d, owns (c : Thread nD τ) (slot V 2 t) fullShare ((dat V hw c).before 2 t d))
    ∗ (∃ d, owns (c : Thread nD τ) (slot V 3 t) fullShare ((dat V hw c).before 3 t d)))

/-- What it gives back. -/
def bodyPost (c : Dev nD) (t : Fin (cf V).N) : sProp 𝕄 :=
  iprop((dat V hw c).Φ t.succ ∗ (dat V hw c).owesAt () t.succ
    ∗ owns (c : Thread nD τ) (slot V 0 t) fullShare ((dat V hw c).after 0 t)
    ∗ owns (c : Thread nD τ) (slot V 1 t) fullShare ((dat V hw c).after 1 t)
    ∗ owns (c : Thread nD τ) (slot V 2 t) fullShare ((dat V hw c).after 2 t)
    ∗ owns (c : Thread nD τ) (slot V 3 t) fullShare ((dat V hw c).after 3 t))

/-- The invariant's table, by itself. -/
theorem inv_eq (c : Dev nD) (t : Fin ((cf V).N + 1)) :
    (dat V hw c).Φ t = iprop(Pipeline.scopedRest spec1 c ∗ (((c : Thread nD τ).loc main_v10) ↦{fullShare} V 0 main_v10)) := by
  show iprop(Pipeline.scopedRest spec1 c ∗ Pipeline.prefHeld pre1 c (fun _ => fullShare) (adm V).1) = _
  unfold Pipeline.prefHeld
  rw [bigSep_univ_eq_bigSepL [(0 : Fin 1)] (by decide) (by decide)]
  rfl

/-- One core: its index is 0. -/
theorem core_zero (c : Dev nD) : c = 0 := Subsingleton.elim _ _

set_option maxHeartbeats 1000000 in
theorem sound_body (c : Dev nD) (t : Fin (cf V).N) :
    bodyPre V hw c t ⊢ wp frame (wpE (defs₀ (F := F)) Variants.none c none) Set.univ (bodyAt V t) (fun _ => bodyPost V hw c t) := by
  unfold bodyPre bodyPost
  simp only [before_0, before_1]
  rw [inv_eq, inv_eq, scopedRest1_eq, show (dat V hw c).owesAt () t.succ = (dat V hw c).owesAt () t.castSucc from rfl,
    after_0, after_1, after_2, after_3]
  iintro ⟨⟨⟨R1, R2, R3, R4, R5, R6, R7, R8, ⟨%f, Hf⟩⟩, Ht⟩, Ho, ⟨%d0, H0⟩, ⟨%d1, H1⟩, ⟨%d2, H2⟩, ⟨%d3, H3⟩⟩
  rw [← total_before V hw c t d3]
  obtain rfl := core_zero c
  iapply (body_run (grid1.coords t) (Memref.whole main_v10) (slot V 0 t) (slot V 1 t) (slot V 2 t) (slot V 3 t) (Memref.whole cc1_scratch0)
    defs₀ 0 fullShare (words V 0) (hw 0) (blockAt V 0 0 t) (blockAt V 0 1 t) ((dat V hw 0).before 3 t d3) _)
  simp only [owns_whole]
  isplitl [Ht]; · iexact Ht
  isplitl [H0]; · iexact H0
  isplitl [H1]; · iexact H1
  isplitl [H2]; · iexists _; iexact H2
  isplitl [H3]; · iexact H3
  isplitl [Hf]; · iexists _; iexact Hf
  iintro ⟨Ht, H0, H1, H2, H3, ⟨%g, Hf⟩⟩
  isplitr [Ho H0 H1 H2 H3]
  · isplitr [Ht]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexists _; iexact Hf
    · iexact Ht
  isplitl [Ho]; · iexact Ho
  isplitl [H0]; · iexact H0
  isplitl [H1]; · iexact H1
  isplitl [H2]; · iexact H2
  iexact H3

/-- The body table's row at point `t` is the body's call. -/
theorem defs₀_row (t : Fin (cf V).N) : defs₀ (F := F) .tc (cf V).body ((cf V).bodyArgs t ((cf V).slots t)) = bodyAt V t := by
  unfold defs₀; rw [Defs.onTc_tc]; rfl

theorem body_obligation (c : Dev nD) : BodyObligation (dat V hw c) (defs₀ (F := F)) Variants.none () Set.univ := fun t => by
  rw [bigSep_W1, bigSep_W1, defs₀_row]
  exact triple_restated (sound_body V hw c t) rfl .rfl fun _ => .rfl

end WholeSecond
-- ==== Proof.WholeChain.lean ====
/-
  The whole computation as a chain of host operations and calls, at any floats and for any proof of the two calls that takes
  every buffer of a core and gives every one back.
-/
module

public import proofs.«01_k».proof.Proof.Gen.KernelIdeal.Regions
public import Idealize.ShloMosaic.Lib.Pipeline.Regions

@[expose] public section

noncomputable section

namespace WholeChain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-- The waits of a core's own transfers are at the one level there is. -/
abbrev L : GSem nD τ sig → Finset Unit := fun g => if g.1.2 = .tc then {()} else ∅
abbrev lv : GSem nD τ sig → Unit → ℕ := fun _ _ => 0

/-- What rides beside the buffers: the core owes nothing. -/
abbrev idle (c : Dev nD) : sProp 𝕄 := iprop((∃ W, owes (c : Thread nD τ) (0 : CellTallies nD τ sig Unit) W) ∗ emp ∗ emp)

/-- A core's buffers, then what it owes. -/
abbrev holding (W : Dev nD → Valuation τ sig (Elt F)) (c : Dev nD) : sProp 𝕄 :=
  iprop(StableHlo.held (c : Thread nD τ) (Pipeline.ucRefs τ sig) (W c) ∗ idle c)

variable (m : (ℓ : Loc nD τ sig) → Buf (Elt F) ℓ) (ρ : Dev nD → PrngReg)
  (a : (p : Fin 2) → (pcfgs (F := F) p).Adm)
  (ds : (p : Fin 2) → (c : Dev nD) → Dat τ (Elt F) Unit ℕ (UR sig nD τ) ℕ (Pipeline.pin (pcfgs (F := F)) a p) c)

def host0 (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) W idle
def host1 (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W idle
def host2 (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) W idle

variable (W0 W2 W4 : Dev nD → Valuation τ sig (Elt F))
  (R0 : RegionSeg (pcfgs (F := F)) a ds () defs₀ Variants.none L lv 0)
  (R1 : RegionSeg (pcfgs (F := F)) a ds () defs₀ Variants.none L lv 1)

/-- The computation's items. -/
abbrev items (_ : Dev nD) : List (Seg (pcfgs (F := F)) a ds () defs₀ Variants.none L lv) :=
  [.host (host0 W0), .region R0, .host (host1 W2), .region R1, .host (host2 W4)]

theorem main_items (c : Dev nD) (Q : PUnit.{1} → sProp 𝕄) :
    (wp Idealize.ShloMosaic.frame (wpE (Pipeline.defs (pcfgs (F := F)) defs₀) Variants.none.lift (c : Thread nD τ) none) Set.univ
        (Seg.run (items a ds W0 W2 W4 R0 R1 c))) Q
      ⊢ (wp Idealize.ShloMosaic.frame (wpE (Pipeline.defs (pcfgs (F := F)) defs₀) Variants.none.lift (c : Thread nD τ) none) Set.univ (main c)) Q := by
  rewrite [main_chain c, Seg.run_eq_chain,
    show (items a ds W0 W2 W4 R0 R1 c).map Seg.prog = [
      StableHlo.seq hostOps0,
      Prog.lift (.customCall (Pipeline.entry 0) ()),
      StableHlo.seq hostOps1,
      Prog.lift (.customCall (Pipeline.entry 1) ()),
      StableHlo.seq hostOps2 ] from rfl]
  exact .rfl

/-- The launch's part of the ghost state. -/
theorem launch_own : (ownU (initOf (Pipeline.cells (Pipeline.pin (pcfgs (F := F)) a) (cellOf_inj a))
      (Pipeline.launchToks (Pipeline.pin (pcfgs (F := F)) a) (cellOf_inj a))) : sProp 𝕄)
    ⊢ |={Set.univ}=> iprop(BI.own (emb₁ (initOf (Pipeline.cells (Pipeline.pin (pcfgs (F := F)) a) (cellOf_inj a))
        (Pipeline.launchToks (Pipeline.pin (pcfgs (F := F)) a) (cellOf_inj a))))
      ∗ bigSep Finset.univ fun _ : Dev nD => (BI.emp : sProp 𝕄)) := by
  iintro Hu
  imodintro
  isplitl [Hu]
  · iapply (show (ownU _ : sProp 𝕄) ⊢ BI.own (emb₁ (initOf (Pipeline.cells (Pipeline.pin (pcfgs (F := F)) a) (cellOf_inj a))
        (Pipeline.launchToks (Pipeline.pin (pcfgs (F := F)) a) (cellOf_inj a)))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- Every weakly fair execution ends, with every buffer of a core as the host's last operations leave it and every semaphore
    zero, given the two calls' proofs from buffers to buffers. -/
theorem run_of
    (pre0 : ∀ c, holding (fun c => StableHlo.after hostOps0 (fun b => m (c, b))) c ⊢ R0.pre c) (post0 : ∀ c, R0.post c ⊢ holding W2 c)
    (pre1 : ∀ c, holding (fun c => StableHlo.after hostOps1 (W2 c)) c ⊢ R1.pre c) (post1 : ∀ c, R1.post c ⊢ holding W4 c) :
    θ_run defs (onTc (τ := τ) (main (F := F))) ⟨m, fun _ => 0, ρ⟩ (fun r =>
      (∀ c : Dev nD, ∀ b : Ref sig .tc, (Proc.devRef .tc b : DevRef τ sig) ∈ Pipeline.ucRefs τ sig →
        r.2.mem ((c : Thread nD τ).loc b) = StableHlo.after hostOps2 (W4 c) b) ∧ r.2.sem = fun _ => 0) := by
  refine Pipeline.θ_run_regions_kit_dev_sems (pcfgs (F := F)) a ds () (cellOf_inj a) emb₁ defs₀ Variants.none L lv m ρ main
    (items a ds (fun c b => m (c, b)) W2 W4 R0 R1)
    (main_items a ds (fun c b => m (c, b)) W2 W4 R0 R1)
    (fun c => by simp only [items, Seg.pipes_host, Seg.pipes_region, Seg.pipes_nil]; decide) 0
    (fun g h => if_neg h) (fun _ => iprop(emp)) _ (launch_own a)
    (T₀ := holding (fun c b => m (c, b)))
    (Tₙ := fun c => StableHlo.held (c : Thread nD τ) (Pipeline.ucRefs τ sig) (StableHlo.after hostOps2 (W4 c)))
    (hch := fun c => ⟨.rfl, pre0 c, post0 c, pre1 c, post1 c, sep_mono .rfl ?_⟩)
    (hinit := ?_)
    (QY := fun c s => ∀ b : Ref sig .tc, (Proc.devRef .tc b : DevRef τ sig) ∈ Pipeline.ucRefs τ sig →
      s.mem ((c : Thread nD τ).loc b) = StableHlo.after hostOps2 (W4 c) b)
    (hfin := fun c s' => ?_) (hQ := fun _ h hz => ⟨h, funext fun g => hz g (.inr (regions_no_unscoped g.2))⟩)
  · iintro ⟨Ho, -, -⟩
    iexact Ho
  · refine Pipeline.initEach L lv fun c => ?_
    rw [show (unscopedBufs c fun b => m ((c : Thread nD τ).loc b) : sProp 𝕄)
        = StableHlo.held (c : Thread nD τ) (Pipeline.ucRefs τ sig) (fun b => m (c, b)) from Pipeline.unscopedBufs_held c (fun b => m (c, b))]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (StableHlo.after hostOps2 (W4 c)) s') $$ [Hh HSI]
    · isplitl [Hh] <;> iassumption
    icases Hr with ⟨%h, HSI⟩
    imodintro
    isplitr
    · ipureintro
      exact fun b hb => h _ hb
    · iexact HSI

end WholeChain
-- ==== Proof.WholeRun.lean ====
/-
  The run of the whole computation, at any floats, given that every word of the first call's result is below 8192.

  Between the host's operations and the two calls a core holds every buffer at contents written out here (`B1` … `B5`);
  each call takes the arrays its windows name, and its table, out of them and puts them back as its proof data say.
-/
module

public import proofs.«01_k».proof.Proof.WholeFirst
public import proofs.«01_k».proof.Proof.WholeSecond
public import proofs.«01_k».proof.Proof.WholeChain
public import Idealize.ShloMosaic.Lib.Pipeline.RegionArraysS
public import Idealize.ShloMosaic.Lib.Pipeline.RegionArraysTS

@[expose] public section

noncomputable section

namespace WholeRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)
open Cert.KernelIdeal Cert.KernelIdeal.Gen WholeChain

variable {F : FTy → Type} [FloatOps F]

local notation "𝕄" => MT nD τ sig Unit (Elt F) ℕ (UR sig nD τ) ℕ

/-! ### The two calls, from whatever buffers they are entered with -/

section Calls

variable (W1 W3 : Dev nD → Valuation τ sig (Elt F))

/-- A core's buffers by reference. -/
abbrev byRef (W : Dev nD → Valuation τ sig (Elt F)) (c : Dev nD) (b : Ref sig .tc) : Buf (Elt F) ((c : Thread nD τ).loc b) := W c b

variable (hw : ∀ c, LookupBody.InRange (WholeSecond.words (byRef W3) c))

/-- The first call's proof data. -/
abbrev first (c : Dev nD) : Dat τ (Elt F) Unit ℕ (UR sig nD τ) ℕ cfg0 c := WholeFirst.dat (byRef W1) c
/-- The second call's proof data. -/
abbrev second (c : Dev nD) : Dat τ (Elt F) Unit ℕ (UR sig nD τ) ℕ (WholeSecond.cf (byRef W3)) c := WholeSecond.dat (byRef W3) hw c

/-- The calls' tables: the first has none. -/
def tables : (p : Fin 2) → (pcfgs (F := F) p).Adm
  | ⟨0, _⟩ => cfg0.toPCfg_adm
  | ⟨1, _⟩ => WholeSecond.adm (byRef W3)

/-- The calls' proof data. -/
def dats : (p : Fin 2) → (c : Dev nD) → Dat τ (Elt F) Unit ℕ (UR sig nD τ) ℕ (Pipeline.pin (pcfgs (F := F)) (tables W3) p) c
  | ⟨0, _⟩ => fun c => first W1 c
  | ⟨1, _⟩ => fun c => second W3 hw c

theorem cut (p : Fin 2) : Pipeline.LevelCut (pcfgs (F := F)) (tables W3) () L lv p (fun _ : Dev nD => (0 : CellTallies nD τ sig Unit)) (fun _ => 0) where
  hι c w s := by show () ∈ (if (Proc.tc : Proc τ) = .tc then ({()} : Finset Unit) else ∅); rw [if_pos rfl]; exact Finset.mem_singleton_self _
  hιb c w s := le_refl 0
  hD c g i h := absurd h (lt_irrefl _)

theorem first_arrays : Pipeline.arrRefs (pcfgs (F := F) 0).spec ⊆ Pipeline.ucRefs τ sig :=
  show Pipeline.arrRefs spec0 ⊆ Pipeline.ucRefs τ sig from Pipeline.arrRefs_sub_ucRefs _ (by decide)
theorem second_arrays : Pipeline.arrRefs (pcfgs (F := F) 1).spec ⊆ Pipeline.ucRefs τ sig :=
  show Pipeline.arrRefs spec1 ⊆ Pipeline.ucRefs τ sig from Pipeline.arrRefs_sub_ucRefs _ (by decide)
theorem second_table : Pipeline.tblRefs (pcfgs (F := F) 1).pre ⊆ Pipeline.ucRefs τ sig :=
  show Pipeline.tblRefs pre1 ⊆ Pipeline.ucRefs τ sig from Pipeline.tblRefs_sub_ucRefs _ (by decide)

set_option backward.isDefEq.respectTransparency.types false in
theorem first_body (c : Dev nD) : Pipeline.BodyObligationLoose (dats W1 W3 hw 0 c) defs₀ Variants.none () Set.univ :=
  (WholeFirst.body_obligation (byRef W1) c).loose

set_option backward.isDefEq.respectTransparency.types false in
theorem second_body (c : Dev nD) : Pipeline.BodyObligationLoose (dats W1 W3 hw 1 c) defs₀ Variants.none () Set.univ :=
  (WholeSecond.body_obligation (byRef W3) hw c).loose

set_option backward.isDefEq.respectTransparency.types false in
/-- The first call, over every buffer. -/
def call0 : RegionSeg (pcfgs (F := F)) (tables W3) (dats W1 W3 hw) () defs₀ Variants.none L lv 0 :=
  RegionSeg.ofHeldIn (pcfgs (F := F)) (tables W3) (dats W1 W3 hw) () defs₀ Variants.none L lv 0 (fun _ => 0) (Pipeline.ucRefs τ sig)
    (fun _ => iprop(emp)) (fun _ => iprop(emp)) launch0 rfl (first_body W1 W3 hw)
    (fun _ _ => rfl) (fun _ => rfl) (fun c => (first W1 c).share_full fun _ => rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0) (cut W3 0) (fun _ => iprop(emp)) W1 (fun c w => WholeFirst.A_eq (byRef W1) c w)

set_option backward.isDefEq.respectTransparency.types false in
/-- The second call, over every buffer. -/
def call1 : RegionSeg (pcfgs (F := F)) (tables W3) (dats W1 W3 hw) () defs₀ Variants.none L lv 1 :=
  RegionSeg.ofHeldInT (pcfgs (F := F)) (tables W3) (dats W1 W3 hw) () defs₀ Variants.none L lv 1 (fun _ => 0) (Pipeline.ucRefs τ sig)
    (fun _ => iprop(emp)) (fun _ => iprop(emp)) launch1 (second_body W1 W3 hw)
    (fun _ _ => rfl) (fun _ => rfl) (fun c => (second W3 hw c).share_full fun _ => rfl)
    (fun c => by
      show iprop(iprop(Pipeline.scopedRest spec1 c ∗ emp) ∗ Pipeline.prefHeld pre1 c (fun _ => fullShare) (WholeSecond.adm (byRef W3)).1)
        ⊢ iprop(Pipeline.scopedRest spec1 c ∗ Pipeline.prefHeld pre1 c (fun _ => fullShare) (WholeSecond.adm (byRef W3)).1)
      iintro ⟨⟨H, -⟩, Ht⟩; isplitl [H] <;> iassumption)
    (fun c => by
      show iprop(Pipeline.scopedRest spec1 c ∗ Pipeline.prefHeld pre1 c (fun _ => fullShare) (WholeSecond.adm (byRef W3)).1)
        ⊢ iprop(iprop(Pipeline.scopedRest spec1 c ∗ emp) ∗ Pipeline.prefHeld pre1 c (fun _ => fullShare) (WholeSecond.adm (byRef W3)).1)
      iintro ⟨H, Ht⟩; isplitl [H]
      · isplitl [H]; · iexact H
        iempintro
      iexact Ht)
    (fun _ => 0) (cut W3 1) (fun _ => iprop(emp)) W3 (fun c w => WholeSecond.A_eq (byRef W3) hw c w)
    (fun c k => by obtain rfl := WholeSecond.core_zero c; rfl)

theorem call0_pre (c : Dev nD) : holding W1 c ⊢ (call0 W1 W3 hw).pre c :=
  RegionSeg.ofHeldIn_pre (pcs := pcfgs (F := F)) (a := tables W3) (pdats := dats W1 W3 hw) (ι := ()) (defs₀ := defs₀) (𝒱₀ := Variants.none)
    (L := L) (lv := lv) (p := 0) (D := fun _ => 0) (X := fun _ => iprop(emp)) (Y := fun _ => iprop(emp)) (R := fun _ => iprop(emp)) (W := W1)
    first_arrays c

theorem call0_post (c : Dev nD) : (call0 W1 W3 hw).post c ⊢ holding (fun c => afterRegion (dats W1 W3 hw 0 c) (W1 c)) c :=
  RegionSeg.ofHeldIn_post first_arrays c

theorem call1_pre (c : Dev nD) : holding W3 c ⊢ (call1 W1 W3 hw).pre c :=
  RegionSeg.ofHeldInT_pre (pcs := pcfgs (F := F)) (a := tables W3) (pdats := dats W1 W3 hw) (ι := ()) (defs₀ := defs₀) (𝒱₀ := Variants.none)
    (L := L) (lv := lv) (p := 1) (D := fun _ => 0) (X := fun _ => iprop(emp)) (Y := fun _ => iprop(emp)) (R := fun _ => iprop(emp)) (W := W3)
    second_arrays second_table c

theorem call1_post (c : Dev nD) : (call1 W1 W3 hw).post c ⊢ holding (fun c => afterRegion (dats W1 W3 hw 1 c) (W3 c)) c :=
  RegionSeg.ofHeldInT_post second_arrays second_table c

end Calls

/-! ### The run -/

variable (m : (ℓ : Loc nD τ sig) → Buf (Elt F) ℓ) (ρ : Dev nD → PrngReg)

/-- The buffers after the host's first operations. -/
def B1 (c : Dev nD) : Valuation τ sig (Elt F) := StableHlo.after hostOps0 (fun b => m (c, b))
/-- After the first call. -/
def B2 (c : Dev nD) : Valuation τ sig (Elt F) := afterRegion (first (B1 m) c) (B1 m c)
/-- After the reshape between the calls. -/
def B3 (c : Dev nD) : Valuation τ sig (Elt F) := StableHlo.after hostOps1 (B2 m c)

variable (hw : ∀ c, LookupBody.InRange (WholeSecond.words (byRef (B3 m)) c))

/-- After the second call. -/
def B4 (c : Dev nD) : Valuation τ sig (Elt F) := afterRegion (second (B3 m) hw c) (B3 m c)
/-- At the end. -/
def B5 (c : Dev nD) : Valuation τ sig (Elt F) := StableHlo.after hostOps2 (B4 m hw c)

/-- Every weakly fair execution ends, with every buffer of a core at `B5` and every semaphore zero. -/
theorem run : θ_run defs (onTc (τ := τ) (main (F := F))) ⟨m, fun _ => 0, ρ⟩ (fun r =>
    (∀ c : Dev nD, ∀ b : Ref sig .tc, (Proc.devRef .tc b : DevRef τ sig) ∈ Pipeline.ucRefs τ sig →
      r.2.mem ((c : Thread nD τ).loc b) = B5 m hw c b) ∧ r.2.sem = fun _ => 0) :=
  WholeChain.run_of m ρ (tables (B3 m)) (dats (B1 m) (B3 m) hw) (B2 m) (B4 m hw) (call0 (B1 m) (B3 m) hw) (call1 (B1 m) (B3 m) hw)
    (call0_pre (B1 m) (B3 m) hw) (call0_post (B1 m) (B3 m) hw) (call1_pre (B1 m) (B3 m) hw) (call1_post (B1 m) (B3 m) hw)

end WholeRun
-- ==== Proof.WholeValue.lean ====
/-
  What the whole computation leaves in its results, over the extended reals.

  The first call's array is `nearest` of the arguments, so the second call's indices are below 8192 and its arrays are
  `quantized` and `meanSq`, the row of an index being its nearest column; the host lays the three out.
-/
module

public import proofs.«01_k».proof.Proof.WholeRun
public import proofs.«01_k».proof.Proof.NearestSpec
public import proofs.«01_k».proof.Proof.LookupHost
public import proofs.«01_k».proof.Proof.LookupValue
public import proofs.«01_k».proof.Proof.NearestValue
public import Idealize.ShloMosaic.Lib.Pointwise.Reduce
public import Idealize.ShloMosaic.Lib.Pipeline.ValueKit.Geometry
public import Idealize.ShloMosaic.Lib.Pipeline.ValueKit
public import Idealize.ShloMosaic.Lib.Pipeline.FrameTail
public import Idealize.ShloMosaic.Lib.StableHlo.ReadAt
public import Idealize.ShloMosaic.Lib.IdealHost

@[expose] public section

namespace WholeValue

open Idealize.ShloMosaic hiding ix0 ix1 ix2
open Idealize.ShloMosaic.TcCoe Idealize.ShloMosaic.ValueIdx Idealize.SL.Sem
open Idealize.ShloMosaic.Pipeline (Dat afterRegion)
open Cert.KernelIdeal Cert.KernelIdeal.Gen WholeRun FirstMin NearestSpec LookupSpec LookupHost
open scoped BigOperators

variable (m : (ℓ : Loc nD τ sig) → Buf (Elt Ideal) ℓ) (ρ : Dev nD → PrngReg)

/-- The rows: the first argument with its leading axes merged. -/
noncomputable abbrev rows (c : Dev nD) : Rows.Idx → EReal :=
  shapeCast S16384x64 (m ((c : Thread nD τ).loc main_arg0)) shapeCasts_S16x1024x64_S16384x64

/-- The columns: the second argument. -/
noncomputable abbrev cols (c : Dev nD) : (⟨2, ![64, 8192]⟩ : Shape).Idx → EReal := m ((c : Thread nD τ).loc main_arg1)

/-- The columns, one to a row. -/
noncomputable abbrev codes (c : Dev nD) : Codes.Idx → EReal :=
  transpose S8192x64 [1, 0] (m ((c : Thread nD τ).loc main_arg1)) transposes_S64x8192_S8192x64_1_0

/-! ### The first call -/

theorem B1_rows (c : Dev nD) : B1 m c main_v0 = rows m c := by
  unfold B1; after_reads_simp; rfl

theorem B1_cols (c : Dev nD) : B1 m c main_v7 = cols m c := by
  unfold B1; after_reads_simp; rfl

theorem B1_codes (c : Dev nD) : B1 m c main_v8 = codes m c := by
  unfold B1; after_reads_simp

theorem B1_sq_rows (c : Dev nD) (i : Fin 16384) :
    B1 m c main_v3 (ix2 i 0) = ∑ k : Fin 64, rows m c (ix2 i k) * rows m c (ix2 i k) := by
  unfold B1
  after_reads_simp
  exact (broadcastInDim_apply _ _ _ (ix2 i 0) (ix1 i) (fun a => by match a with | ⟨0, _⟩ => rfl)).trans (sum_sq_row _ _ _ i)

theorem B1_sq_cols (c : Dev nD) (k : Fin 8192) :
    B1 m c main_v6 (ix2 0 k) = ∑ j : Fin 64, cols m c (ix2 j k) * cols m c (ix2 j k) := by
  unfold B1
  after_reads_simp
  exact (broadcastInDim_apply _ _ _ (ix2 0 k) (ix1 k) (fun a => by match a with | ⟨0, _⟩ => rfl)).trans (sum_sq_col _ _ _ k)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])

section FirstBlocks

variable (V : (c : Dev nD) → (b : Ref sig .tc) → Buf (Elt Ideal) ((c : Thread nD τ).loc b))

theorem block_rows (c : Dev nD) (t : Fin cfg0.N) (r : Fin 256) (k : Fin 64) (i : Fin 16384) (hi : i.val = t.val * 256 + r.val) :
    WholeFirst.blockAt V c 0 t (ix2 r k) = V c main_v0 (ix2 i k) := by
  show V c main_v0 ((win0_0.blk t).view.emb (ix2 r k)) = _
  refine congrArg _ (funext fun a => Fin.ext ?_)
  match a with
  | ⟨0, _⟩ => blk_simp [index0]; exact hi.symm
  | ⟨1, _⟩ => blk_simp [index0]

theorem block_cols (c : Dev nD) (t : Fin cfg0.N) (j : Fin 64) (k : Fin 8192) :
    WholeFirst.blockAt V c 1 t (ix2 j k) = V c main_v7 (ix2 j k) := by
  show V c main_v7 ((win0_1.blk t).view.emb (ix2 j k)) = _
  refine congrArg _ (funext fun a => Fin.ext ?_)
  match a with
  | ⟨0, _⟩ => blk_simp [index1]
  | ⟨1, _⟩ => blk_simp [index1]

theorem block_sq_rows (c : Dev nD) (t : Fin cfg0.N) (r : Fin 256) (i : Fin 16384) (hi : i.val = t.val * 256 + r.val) :
    WholeFirst.blockAt V c 2 t (ix2 r 0) = V c main_v3 (ix2 i 0) := by
  show V c main_v3 ((win0_2.blk t).view.emb (ix2 r 0)) = _
  refine congrArg _ (funext fun a => Fin.ext ?_)
  match a with
  | ⟨0, _⟩ => blk_simp [index2]; exact hi.symm
  | ⟨1, _⟩ => blk_simp [index2]

theorem block_sq_cols (c : Dev nD) (t : Fin cfg0.N) (k : Fin 8192) :
    WholeFirst.blockAt V c 3 t (ix2 0 k) = V c main_v6 (ix2 0 k) := by
  show V c main_v6 ((win0_3.blk t).view.emb (ix2 0 k)) = _
  refine congrArg _ (funext fun a => Fin.ext ?_)
  match a with
  | ⟨0, _⟩ => blk_simp [index3]
  | ⟨1, _⟩ => blk_simp [index3]

end FirstBlocks

/-- The first call's array after its grid: every row's nearest column. -/
theorem first_out (c : Dev nD) : (first (B1 m) c).arrAt 4 cfg0.N = nearest (rows m c) (cols m c) := by
  refine (first (B1 m) c).arrAt_eq_of_covers 4 _ (by decide +kernel) fun t hf y => ?_
  blk_simp
  rw [WholeFirst.after_4]
  unfold WholeFirst.stored
  rw [View.canon_unit_zero (by funext a; fin_cases a <;> rfl), View.ld_unit_lit _ _ (by decide), View.ld_unit_lit _ _ (by decide),
    View.ld_unit_lit _ _ (by decide), View.ld_unit_lit _ _ (by decide)]
  have hr : (y 0 : ℕ) < 256 := (y 0).isLt
  have hc : (y 1 : ℕ) < 1 := (y 1).isLt
  have hy : y = (ix2 ⟨(y 0 : ℕ), hr⟩ 0 : (⟨2, ![256, 1]⟩ : Shape).Idx) := by
    funext a
    match a with
    | ⟨0, _⟩ => rfl
    | ⟨1, _⟩ => apply Fin.ext; show (y 1 : ℕ) = 0; omega
  have hi : ((((win0_4.blk t).view.emb y) 0 : Fin _) : ℕ) = t.val * 256 + (y 0 : ℕ) := by blk_simp [index4]
  generalize (win0_4.blk t).view.emb y = j at hi ⊢
  conv_lhs => rw [hy]
  exact pay_nearest (rows m c) (cols m c) _ _ _ _ ⟨(y 0 : ℕ), hr⟩ (j 0)
    (fun k => (block_rows _ c t _ k (j 0) hi).trans (congrFun (B1_rows m c) _))
    (fun k l => (block_cols _ c t k l).trans (congrFun (B1_cols m c) _))
    ((block_sq_rows _ c t _ (j 0) hi).trans (B1_sq_rows m c (j 0)))
    (fun l => (block_sq_cols _ c t l).trans (B1_sq_cols m c l))

/-- The buffers between the calls: the first call's array … -/
theorem B2_nearest (c : Dev nD) : B2 m c main_v9 = nearest (rows m c) (cols m c) :=
  (Pipeline.afterRegion_arr (first (B1 m) c) (B1 m c) (launch0 (F := Ideal)).win.arr_inj 4).trans (first_out m c)

/-- … and every buffer it doesn't write, as it was. -/
theorem B2_of (c : Dev nD) (r : Ref sig .tc) (h : r ≠ main_v9) : B2 m c r = B1 m c r :=
  Pipeline.afterRegion_keeps (first (B1 m) c) (B1 m c) (launch0 (F := Ideal)).win.arr_inj (fun w => WholeFirst.A_eq _ c w) r fun w e => by
    match w with
    | ⟨0, _⟩ => rfl
    | ⟨1, _⟩ => rfl
    | ⟨2, _⟩ => rfl
    | ⟨3, _⟩ => rfl
    | ⟨4, _⟩ => exact absurd e.symm h

theorem B3_nearest (c : Dev nD) : B3 m c main_v9 = nearest (rows m c) (cols m c) := by
  rw [← B2_nearest]; unfold B3; after_reads_simp
theorem B3_rows (c : Dev nD) : B3 m c main_v0 = rows m c := by
  rw [← B1_rows, ← B2_of m c main_v0 (by decide)]; unfold B3; after_reads_simp
theorem B3_codes (c : Dev nD) : B3 m c main_v8 = codes m c := by
  rw [← B1_codes, ← B2_of m c main_v8 (by decide)]; unfold B3; after_reads_simp

/-- The index table: the first call's array with its axis of extent 1 dropped. -/
theorem B3_words (c : Dev nD) : B3 m c main_v10 = shapeCast S16384 (nearest (rows m c) (cols m c)) shapeCasts_S16384x1_S16384 := by
  rw [← B2_nearest]; unfold B3; after_reads_simp; rfl

/-- A nearest column is a column. -/
theorem nearest_lt (c : Dev nD) (y) : (nearest (rows m c) (cols m c) y).toNat < 8192 := nearest_toNat_lt _ _ y

/-- The second call's indices are in range. -/
theorem hw (c : Dev nD) : LookupBody.InRange (WholeSecond.words (byRef (B3 m)) c) := by
  intro y
  show ((B3 m c main_v10 : IVec S16384 32) y).toNat < 8192
  rw [B3_words]
  exact nearest_lt m c _

/-- A row's nearest column. -/
noncomputable abbrev chosen (c : Dev nD) : Fin 16384 → Fin 8192 := named (nearest (rows m c) (cols m c)) (nearest_lt m c)

/-! ### The second call -/

theorem trans0 : ∀ t : Fin grid1.N, cc1_transform_0 (grid1.coords t) = ![t.val, 0] := by decide +kernel
theorem trans1 : ∀ t : Fin grid1.N, cc1_transform_1 (grid1.coords t) = ![0, 0] := by decide +kernel
theorem trans2 : ∀ t : Fin grid1.N, cc1_transform_2 (grid1.coords t) = ![t.val, 0] := by decide +kernel
theorem coord : ∀ t : Fin grid1.N, (grid1.coords t 0).val = t.val := by decide +kernel

/-- The second call, as it is met. -/
noncomputable abbrev cf : Pipeline.Cfg sig Λ₀ := WholeSecond.cf (byRef (B3 m))

theorem block0 (c : Dev nD) (t : Fin (cf m).N) (y : S256x64.Idx) (i : Fin 16384) (hi : i.val = t.val * 256 + (y 0).val) :
    WholeSecond.blockAt (byRef (B3 m)) c 0 t y = rows m c (ix2 i (y 1)) := by
  rw [← B3_rows]
  show B3 m c main_v0 ((((cf m).win 0).blk t).view.emb y) = _
  refine congrArg _ (funext fun a => Fin.ext ?_)
  match a with
  | ⟨0, _⟩ => blk_simp; exact LookupValue.at_point (congrFun (trans0 t) 0) hi
  | ⟨1, _⟩ => blk_simp; exact LookupValue.at_zero (congrFun (trans0 t) 1)

theorem block1 (c : Dev nD) (t : Fin (cf m).N) (y : S8192x64.Idx) : WholeSecond.blockAt (byRef (B3 m)) c 1 t y = codes m c y := by
  rw [← B3_codes]
  show B3 m c main_v8 ((((cf m).win 1).blk t).view.emb y) = _
  refine congrArg _ (funext fun a => Fin.ext ?_)
  match a with
  | ⟨0, _⟩ => blk_simp; exact LookupValue.at_zero (congrFun (trans1 t) 0)
  | ⟨1, _⟩ => blk_simp; exact LookupValue.at_zero (congrFun (trans1 t) 1)

/-- Where the first array's block of point `t` puts its entries. -/
theorem emb2 (t : Fin (cf m).N) (y : S256x64.Idx) (i : Fin 16384) (hi : i.val = t.val * 256 + (y 0).val) :
    ((((cf m).win 2).blk t).view.emb y : S16384x64.Idx) = ix2 i (y 1) := by
  refine funext fun a => Fin.ext ?_
  match a with
  | ⟨0, _⟩ => blk_simp; exact LookupValue.at_point (congrFun (trans2 t) 0) hi
  | ⟨1, _⟩ => blk_simp; exact LookupValue.at_zero (congrFun (trans2 t) 1)

theorem words_apply (c : Dev nD) (i : Fin 16384) :
    (WholeSecond.words (byRef (B3 m)) c : IVec S16384 32) (ix1 i) = nearest (rows m c) (cols m c) (ix2 i 0) :=
  (congrFun (B3_words m c) (ix1 i)).trans (LookupValue.drop_apply _ i)

theorem rows_apply (c : Dev nD) (t : Fin (cf m).N) (y : S256x64.Idx) (i : Fin 16384) (hi : i.val = t.val * 256 + (y 0).val) :
    WholeSecond.rowsAt (byRef (B3 m)) (hw m) c t y = codes m c (ix2 (chosen m c i) (y 1)) := by
  unfold WholeSecond.rowsAt LookupBody.rows
  rw [block1]
  refine congrArg (fun r => codes m c (ix2 r (y 1))) (Fin.ext ?_)
  show (WholeSecond.words (byRef (B3 m)) c (LookupBody.wordAt (grid1.coords t) (y 0))).toNat = (nearest (rows m c) (cols m c) (ix2 i 0)).toNat
  refine (congrArg (fun k => (WholeSecond.words (byRef (B3 m)) c (ix1 k)).toNat) (Fin.ext ?_ : _ = i)).trans
    (congrArg BitVec.toNat (words_apply m c i))
  show 256 * (grid1.coords t 0).val + (y 0).val = i.val
  rw [coord t, hi, Nat.mul_comm]

/-- An admissible table, any. -/
def someTable : (pcfg1 (F := Ideal)).Adm := ⟨fun k => match k with | ⟨0, _⟩ => fun _ => (0#32 : BitVec 32), trivial⟩
theorem covers_some : ((cfg1 someTable).win 2).Covers := by decide +kernel
theorem covers : ((cf m).win 2).Covers := covers_some
/-- The last point. -/
abbrev lastPt : Fin grid1.N := ⟨63, by decide⟩
theorem whole_some : ((cfg1 someTable).win 3).WholeAt lastPt := by decide +kernel
theorem whole : ((cf m).win 3).WholeAt lastPt := whole_some

/-- An entry of the first array, from the point that writes it. -/
theorem out_entry (c : Dev nD) (t : Fin (cf m).N) (y : S256x64.Idx) :
    (Cert.LookupIdeal.Gen.k0_pay3 (WholeSecond.blockAt (byRef (B3 m)) c 0 t) (WholeSecond.rowsAt (byRef (B3 m)) (hw m) c t) y : EReal)
    = quantized (rows m c) (codes m c) (chosen m c) ((((cf m).win 2).blk t).view.emb y) := by
  have hl : t.val * 256 + (y 0).val < 16384 := by
    have h1 : (y 0).val < 256 := (y 0).isLt
    have h2 : t.val < 64 := lt_of_lt_of_eq t.isLt N_1
    omega
  rw [emb2 m t y ⟨_, hl⟩ rfl]
  exact (pay3_apply _ _ y).trans (congrArg₂ (fun a b : EReal => a + (b - a)) (block0 m c t y ⟨_, hl⟩ rfl) (rows_apply m c t y ⟨_, hl⟩ rfl))

/-- The first array after the grid. -/
theorem second_out (c : Dev nD) : (second (B3 m) (hw m) c).arrAt 2 (cf m).N = quantized (rows m c) (codes m c) (chosen m c) := by
  refine (second (B3 m) (hw m) c).arrAt_eq_of_covers 2 _ (covers m) fun t hf y => ?_
  blk_simp
  rw [WholeSecond.after_2]
  exact out_entry m c t y

/-- The running total's array after the grid. -/
theorem second_sum (c : Dev nD) : (second (B3 m) (hw m) c).arrAt 3 (cf m).N = fun _ => meanSq (rows m c) (codes m c) (chosen m c) := by
  refine (second (B3 m) (hw m) c).arrAt_eq_of_after_last 3 lastPt (whole m) _ fun j => ?_
  blk_simp
  rw [WholeSecond.after_3]
  exact totals_end (rows m c) (codes m c) (chosen m c) (fun n h => WholeSecond.blockAt (byRef (B3 m)) c 0 ⟨n, h⟩)
    (fun n h => WholeSecond.rowsAt (byRef (B3 m)) (hw m) c ⟨n, h⟩)
    (WholeSecond.totalUpto (byRef (B3 m)) (hw m) c) rfl (fun n h => by rw [WholeSecond.totalUpto, dif_pos h])
    (fun n h y i hi => block0 m c ⟨n, h⟩ y i hi) (fun n h y i hi => rows_apply m c ⟨n, h⟩ y i hi) _

/-! ### The end -/

noncomputable abbrev W4 := B4 m (hw m)
noncomputable abbrev W5 := B5 m (hw m)

theorem B4_out (c : Dev nD) : W4 m c main_v11_0 = quantized (rows m c) (codes m c) (chosen m c) :=
  (Pipeline.afterRegion_arr (second (B3 m) (hw m) c) (B3 m c) (launch1 (F := Ideal)).win.arr_inj 2).trans (second_out m c)
theorem B4_sum (c : Dev nD) : W4 m c main_v11_1 = fun _ => meanSq (rows m c) (codes m c) (chosen m c) :=
  (Pipeline.afterRegion_arr (second (B3 m) (hw m) c) (B3 m c) (launch1 (F := Ideal)).win.arr_inj 3).trans (second_sum m c)

/-- Every buffer the second call doesn't write is as it was. -/
theorem B4_of (c : Dev nD) (r : Ref sig .tc) (h0 : r ≠ main_v11_0) (h1 : r ≠ main_v11_1) : W4 m c r = B3 m c r :=
  Pipeline.afterRegion_keeps (second (B3 m) (hw m) c) (B3 m c) (launch1 (F := Ideal)).win.arr_inj (fun w => WholeSecond.A_eq _ _ c w) r fun w e => by
    match w with
    | ⟨0, _⟩ => rfl
    | ⟨1, _⟩ => rfl
    | ⟨2, _⟩ => exact absurd e.symm h0
    | ⟨3, _⟩ => exact absurd e.symm h1

/-- The first result: the nearest columns in place of the rows, in three axes. -/
theorem res0 (c : Dev nD) : W5 m c main_v12
    = shapeCast S16x1024x64 (quantized (rows m c) (codes m c) (chosen m c)) shapeCasts_S16384x64_S16x1024x64 := by
  rw [← B4_out]; unfold W5 B5; after_reads_simp; rfl
/-- The second: the mean of the squares. -/
theorem res1 (c : Dev nD) : W5 m c main_v14 = fun _ => meanSq (rows m c) (codes m c) (chosen m c) := by
  have e : W5 m c main_v14 = shapeCast S_ (W4 m c main_v11_1) shapeCasts_S1x1_S_ := by unfold W5 B5; after_reads_simp; rfl
  rw [e, B4_sum]; rfl
/-- The third: zero. -/
theorem res2 (c : Dev nD) : W5 m c main_v15 = broadcastInDim S1 ![] bcast_S_S1 (constant (F := Ideal) S_ .f32 0x00000000#32) := by
  unfold W5 B5; after_reads_simp
/-- The fourth: the nearest columns' numbers, in two axes. -/
theorem res3 (c : Dev nD) : W5 m c main_v13 = shapeCast S16x1024 (nearest (rows m c) (cols m c)) shapeCasts_S16384x1_S16x1024 := by
  rw [← B3_nearest, ← B4_of m c main_v9 (by decide) (by decide)]; unfold W5 B5; after_reads_simp; rfl

theorem B1_arg0 (c : Dev nD) : B1 m c main_arg0 = m ((c : Thread nD τ).loc main_arg0) := by unfold B1; after_reads_simp
theorem B1_arg1 (c : Dev nD) : B1 m c main_arg1 = m ((c : Thread nD τ).loc main_arg1) := by unfold B1; after_reads_simp
theorem B3_arg0 (c : Dev nD) : B3 m c main_arg0 = B2 m c main_arg0 := by unfold B3; after_reads_simp
theorem B3_arg1 (c : Dev nD) : B3 m c main_arg1 = B2 m c main_arg1 := by unfold B3; after_reads_simp
theorem B5_arg0 (c : Dev nD) : W5 m c main_arg0 = W4 m c main_arg0 := by unfold W5 B5; after_reads_simp
theorem B5_arg1 (c : Dev nD) : W5 m c main_arg1 = W4 m c main_arg1 := by unfold W5 B5; after_reads_simp

/-- The arguments end as they were. -/
theorem end_arg0 (c : Dev nD) : W5 m c main_arg0 = m ((c : Thread nD τ).loc main_arg0) :=
  (B5_arg0 m c).trans ((B4_of m c main_arg0 (by decide) (by decide)).trans ((B3_arg0 m c).trans
    ((B2_of m c main_arg0 (by decide)).trans (B1_arg0 m c))))
theorem end_arg1 (c : Dev nD) : W5 m c main_arg1 = m ((c : Thread nD τ).loc main_arg1) :=
  (B5_arg1 m c).trans ((B4_of m c main_arg1 (by decide) (by decide)).trans ((B3_arg1 m c).trans
    ((B2_of m c main_arg1 (by decide)).trans (B1_arg1 m c))))

/-- A buffer that is no call's own is among those a core holds. -/
theorem held_mem (b : Ref sig .tc) (h : ¬ b.isScoped = true) : (Proc.devRef .tc b : DevRef τ sig) ∈ Pipeline.ucRefs τ sig :=
  Finset.mem_filter.mpr ⟨StableHlo.devRef_mem_tcRefs b, h⟩

/-- The run: the four results, the arguments as they were, and every semaphore zero. -/
theorem run : θ_run defs (onTc (τ := τ) (main (F := Ideal))) ⟨m, fun _ => 0, ρ⟩ fun r => (∀ c : Dev nD,
      r.2.mem ((c : Thread nD τ).loc main_v12)
        = shapeCast S16x1024x64 (quantized (rows m c) (codes m c) (chosen m c)) shapeCasts_S16384x64_S16x1024x64
      ∧ r.2.mem ((c : Thread nD τ).loc main_v14) = (fun _ => meanSq (rows m c) (codes m c) (chosen m c))
      ∧ r.2.mem ((c : Thread nD τ).loc main_v15) = broadcastInDim S1 ![] bcast_S_S1 (constant (F := Ideal) S_ .f32 0x00000000#32)
      ∧ r.2.mem ((c : Thread nD τ).loc main_v13) = shapeCast S16x1024 (nearest (rows m c) (cols m c)) shapeCasts_S16384x1_S16x1024
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => ⟨(h.1 c main_v12 (held_mem _ (by decide))).trans (res0 m c),
      (h.1 c main_v14 (held_mem _ (by decide))).trans (res1 m c), (h.1 c main_v15 (held_mem _ (by decide))).trans (res2 m c),
      (h.1 c main_v13 (held_mem _ (by decide))).trans (res3 m c), (h.1 c main_arg0 (held_mem _ (by decide))).trans (end_arg0 m c),
      (h.1 c main_arg1 (held_mem _ (by decide))).trans (end_arg1 m c)⟩, h.2⟩) (WholeRun.run m ρ (hw m))

end WholeValue
-- ==== Proof.WholeRefRun.lean ====
/-
  The run of the whole reference: a straight line of host operations, read back in two parts.

  The first part ends at the nearest columns' numbers (`NearestRefRun`'s operations, over this program's buffers), the second
  takes those columns and measures how far they are (`LookupHost`'s text).
-/
module

public import proofs.«01_k».proof.Proof.NearestHost
public import proofs.«01_k».proof.Proof.LookupHost
public import proofs.«01_k».proof.Proof.Gen.ReferenceIdeal
public import Idealize.ShloMosaic.Lib.StableHlo.Run
public import Idealize.ShloMosaic.Lib.StableHlo.ReadAt
public import Idealize.ShloMosaic.Lib.Pipeline.Frame
public import Idealize.ShloMosaic.Lib.Pipeline.Value
public import Idealize.ShloMosaic.Lib.Quiescent

@[expose] public section

noncomputable section

namespace WholeRefRun

open Idealize.ShloMosaic hiding ix0 ix1 ix2
open Idealize.ShloMosaic.TcCoe Idealize.ShloMosaic.ValueIdx Idealize.SL.Sem Idealize.ShloMosaic.StableHlo
open Cert.ReferenceIdeal Cert.ReferenceIdeal.Gen NearestSpec FirstMin LookupSpec

/-- The type of `argmax`'s reduction: from the table, the column numbers and the two initial values to a pair at each row. -/
abbrev Reduction : Type :=
  (⟨S16384x8192, .f32⟩ : BufTy).Contents (Elt Ideal) → (⟨S16384x8192, .i32⟩ : BufTy).Contents (Elt Ideal) →
    (⟨S_, .f32⟩ : BufTy).Contents (Elt Ideal) → (⟨S_, .i32⟩ : BufTy).Contents (Elt Ideal) → S16384.Idx → EReal × BitVec 32

/-- The reduction of the program. -/
abbrev reduction : Reduction := fun x y u v =>
  Host.argReduce (F := Ideal) (φ := .f32) (reducer_argmax_f32_i32 (F := Ideal)) x y u v reducesTo_S16384x8192_S16384_d1 h_S_

/-- The first part, around a reduction; the five operations of `argmax` stand where it is called. -/
abbrev finds (R : Reduction) : List (HloOp τ sig (Elt Ideal)) :=
  [ StableHlo.reshape main_arg0 main_v0 (rfl : (.f32 : EltTy) = .f32) shapeCasts_S16x1024x64_S16384x64,
    binary main_v0 main_v0 main_v1 (mulf (F := Ideal) (φ := .f32)),
    nullary main_cst (constant (F := Ideal) S_ .f32 0x00000000#32),
    binary main_v1 main_cst main_v2 (fun x v => Host.reduceAdd (F := Ideal) (φ := .f32) x v reducesTo_S16384x64_S16384_d1 h_S_),
    unary main_v2 main_v3 (broadcastInDim S16384x1 ![0] bcast_S16384_S16384x1_0),
    nullary main_cst_0 (constant (F := Ideal) S_ .f32 0x40000000#32),
    unary main_cst_0 main_v4 (broadcastInDim S16384x64 ![] bcast_S_S16384x64),
    binary main_v4 main_v0 main_v5 (mulf (F := Ideal) (φ := .f32)),
    binary main_v5 main_arg1 main_v6 (fun l r => Host.dotGeneral (F := Ideal) (φ₁ := .f32) (φ₂ := .f32) dot_S16384x64_S64x8192_S16384x8192_1_0_0_1_n_n none l r),
    unary main_v3 main_v7 (broadcastInDim S16384x8192 ![0, 1] bcast_S16384x1_S16384x8192_0_1),
    binary main_v7 main_v6 main_v8 (subf (F := Ideal) (φ := .f32)),
    binary main_arg1 main_arg1 main_v9 (mulf (F := Ideal) (φ := .f32)),
    nullary main_cst_1 (constant (F := Ideal) S_ .f32 0x00000000#32),
    binary main_v9 main_cst_1 main_v10 (fun x v => Host.reduceAdd (F := Ideal) (φ := .f32) x v reducesTo_S64x8192_S8192_d0 h_S_),
    unary main_v10 main_v11 (broadcastInDim S1x8192 ![1] bcast_S8192_S1x8192_1),
    unary main_v11 main_v12 (broadcastInDim S16384x8192 ![0, 1] bcast_S1x8192_S16384x8192_0_1),
    binary main_v8 main_v12 main_v13 (addf (F := Ideal) (φ := .f32)),
    unary main_v13 main_v14 (Host.negf (F := Ideal) (φ := .f32)),
    nullary main_call0_v0 (iotaInDim S16384x8192 32 1),
    nullary main_call0_cst (constant (F := Ideal) S_ .f32 0xFF800000#32),
    nullary main_call0_c (constantI S_ 32 0#32),
    quaternary main_v14 main_call0_v0 main_call0_cst main_call0_c main_call0_v1_0 (fun x y u v j => (R x y u v j).1),
    quaternary main_v14 main_call0_v0 main_call0_cst main_call0_c main_v15 (fun x y u v j => (R x y u v j).2),
    StableHlo.reshape main_v15 main_v16 (rfl : (.i32 : EltTy) = .i32) shapeCasts_S16384_S16x1024 ]

/-- The second part; the operations of `_take`, and within it of `_where`, stand where they are called. -/
abbrev takes : List (HloOp τ sig (Elt Ideal)) :=
  [ unary main_arg1 main_v17 (transpose S8192x64 [1, 0] · transposes_S64x8192_S8192x64_1_0),
    nullary main_call1_c (constantI S_ 32 0#32),
    unary main_call1_c main_call1_v0 (broadcastInDim S16x1024 ![] bcast_S_S16x1024),
    binary main_v16 main_call1_v0 main_call1_v1 (cmpi .slt),
    nullary main_call1_c_0 (constantI S_ 32 8192#32),
    unary main_call1_c_0 main_call1_v2 (broadcastInDim S16x1024 ![] bcast_S_S16x1024),
    binary main_v16 main_call1_v2 main_call1_v3 addi,
    ternary main_call1_v1 main_call1_v3 main_v16 main_call1_v4 select,
    unary main_call1_v4 main_call1_v5 (broadcastInDim S16x1024x1 ![0, 1] bcast_S16x1024_S16x1024x1_0_1),
    nullary main_call1_c_1 (constantI S1 32 8191#32),
    nullary main_call1_c_2 (constantI S_ 32 0#32),
    unary main_call1_c_2 main_call1_v6 (broadcastInDim S16x1024x1 ![] bcast_S_S16x1024x1),
    binary main_call1_v5 main_call1_v6 main_call1_v7 (cmpi .sge),
    unary main_call1_c_1 main_call1_v8 (broadcastInDim S1x1x1 ![2] bcast_S1_S1x1x1_2),
    unary main_call1_v8 main_call1_v9 (broadcastInDim S16x1024x1 ![0, 1, 2] bcast_S1x1x1_S16x1024x1_0_1_2),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S16x1024x1_S16x1024_d2 h_S_),
    binary main_v17 main_call1_v5 main_call1_v13 (fun x i => Host.gather gather_S8192x64_S16x1024x1_S16x1024x64_2_0_n_n_0_2_164 x i),
    unary main_call1_v12 main_call1_v14 (broadcastInDim S16x1024x64 ![0, 1] bcast_S16x1024_S16x1024x64_0_1),
    nullary main_call1_cst (constant (F := Ideal) S_ .f32 0x7FC00000#32),
    unary main_call1_cst main_call1_v15 (broadcastInDim S16x1024x64 ![] bcast_S_S16x1024x64),
    ternary main_call1_v14 main_call1_v13 main_call1_v15 main_v18 select,
    binary main_v18 main_arg0 main_v19 (subf (F := Ideal) (φ := .f32)),
    binary main_v19 main_v19 main_v20 (mulf (F := Ideal) (φ := .f32)),
    nullary main_cst_2 (constant (F := Ideal) S_ .f32 0x00000000#32),
    binary main_v20 main_cst_2 main_v21 (fun x v => Host.reduceAdd (F := Ideal) (φ := .f32) x v reducesTo_S16x1024x64_S_d0_1_2 h_S_),
    nullary main_cst_3 (constant (F := Ideal) S_ .f32 0x49800000#32),
    binary main_v21 main_cst_3 main_v22 (Host.divf (F := Ideal) (φ := .f32)),
    binary main_v18 main_arg0 main_v23 (subf (F := Ideal) (φ := .f32)),
    binary main_arg0 main_v23 main_v24 (addf (F := Ideal) (φ := .f32)),
    nullary main_cst_4 (constant (F := Ideal) S_ .f32 0x00000000#32),
    unary main_cst_4 main_v25 (broadcastInDim S1 ![] bcast_S_S1) ]

abbrev ops : List (HloOp τ sig (Elt Ideal)) := finds reduction ++ takes

/-! The operations of `argmax` are the plain ones on its buffers, whatever they compute. -/

theorem places_eq (f : (⟨S16384x8192, .i32⟩ : BufTy).Contents (Elt Ideal)) :
    TRef.nullary (τ := τ) main_call0.v0 f = nullary main_call0_v0 f := rfl
theorem least_eq (f : (⟨S_, .f32⟩ : BufTy).Contents (Elt Ideal)) :
    TRef.nullary (τ := τ) main_call0.cst f = nullary main_call0_cst f := rfl
theorem zero_eq (f : (⟨S_, .i32⟩ : BufTy).Contents (Elt Ideal)) :
    TRef.nullary (τ := τ) main_call0.c f = nullary main_call0_c f := rfl
theorem value_eq (f : (⟨S16384x8192, .f32⟩ : BufTy).Contents (Elt Ideal) → (⟨S16384x8192, .i32⟩ : BufTy).Contents (Elt Ideal) →
      (⟨S_, .f32⟩ : BufTy).Contents (Elt Ideal) → (⟨S_, .i32⟩ : BufTy).Contents (Elt Ideal) → (⟨S16384, .f32⟩ : BufTy).Contents (Elt Ideal)) :
    TRef.quaternary (τ := τ) (.of main_v14) main_call0.v0 main_call0.cst main_call0.c main_call0.v1_0 f
      = quaternary main_v14 main_call0_v0 main_call0_cst main_call0_c main_call0_v1_0 f := rfl
theorem index_eq (f : (⟨S16384x8192, .f32⟩ : BufTy).Contents (Elt Ideal) → (⟨S16384x8192, .i32⟩ : BufTy).Contents (Elt Ideal) →
      (⟨S_, .f32⟩ : BufTy).Contents (Elt Ideal) → (⟨S_, .i32⟩ : BufTy).Contents (Elt Ideal) → (⟨S16384, .i32⟩ : BufTy).Contents (Elt Ideal)) :
    TRef.quaternary (τ := τ) (.of main_v14) main_call0.v0 main_call0.cst main_call0.c main_call0.v1_1 f
      = quaternary main_v14 main_call0_v0 main_call0_cst main_call0_c main_v15 f := rfl

set_option maxRecDepth 100000 in
/-- @main is that straight line. -/
theorem main_eq (c : Dev nD) : main (F := Ideal) c = seq ops := by
  unfold main fn_argmax.body
  rw [places_eq, least_eq, zero_eq, value_eq, index_eq]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem finds_sub : (finds reduction).Forall fun op => op.bufs ⊆ tcRefs τ sig :=
  ⟨reshape_bufs_sub .., binary_bufs_sub .., nullary_bufs_sub .., binary_bufs_sub .., unary_bufs_sub ..,
    nullary_bufs_sub .., unary_bufs_sub .., binary_bufs_sub .., binary_bufs_sub .., unary_bufs_sub ..,
    binary_bufs_sub .., binary_bufs_sub .., nullary_bufs_sub .., binary_bufs_sub .., unary_bufs_sub ..,
    unary_bufs_sub .., binary_bufs_sub .., unary_bufs_sub .., nullary_bufs_sub .., nullary_bufs_sub ..,
    nullary_bufs_sub .., quaternary_bufs_sub .., quaternary_bufs_sub .., reshape_bufs_sub ..⟩
theorem takes_sub : takes.Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., binary_bufs_sub .., nullary_bufs_sub .., binary_bufs_sub .., nullary_bufs_sub .., binary_bufs_sub ..,
    binary_bufs_sub .., binary_bufs_sub .., nullary_bufs_sub .., unary_bufs_sub ..⟩
theorem ops_sub : ops.Forall fun op => op.bufs ⊆ tcRefs τ sig :=
  List.forall_append.mpr ⟨finds_sub, takes_sub⟩

/-- The comparison `argmax` folds with, at the extended reals: no value differs from itself. -/
theorem reducer_eq : reducer_argmax_f32_i32 (F := Ideal) = pick := by
  funext a b
  exact NearestHost.keep_larger a.1 b.1 a.2 b.2

/-! ### The first part -/

section Finds

variable (V : Valuation τ sig (Elt Ideal))

theorem finds_arg0 (R : Reduction) : after (finds R) V (main_arg0 : DevRef τ sig) = V (main_arg0 : DevRef τ sig) := by
  after_results
theorem finds_arg1 (R : Reduction) : after (finds R) V (main_arg1 : DevRef τ sig) = V (main_arg1 : DevRef τ sig) := by
  after_results

/-- The rows' places: what the reduction leaves at each row, given that it is a fold of the row's pairs. -/
theorem found_of (R : Reduction) (i : Fin 16384)
    (hR : ∀ d : (⟨S16384x8192, .f32⟩ : BufTy).Contents (Elt Ideal),
      (R (Host.negf (F := Ideal) (φ := .f32) d) (iotaInDim S16384x8192 32 1) (constant (F := Ideal) S_ .f32 0xFF800000#32)
        (constantI S_ 32 0#32) (ix1 i)).2 = place (by norm_num : 0 < 8192) (fun k => d (ix2 i k))) :
    (after (finds R) V (main_v15 : DevRef τ sig) : IVec S16384 32) (ix1 i)
      = place (by norm_num : 0 < 8192)
          (sqDist (shapeCast S16384x64 (V (main_arg0 : DevRef τ sig)) shapeCasts_S16x1024x64_S16384x64) (V (main_arg1 : DevRef τ sig)) i) := by
  after_reads_simp
  refine (hR _).trans ?_
  refine congrArg (place _) (funext fun k => ?_)
  exact NearestHost.table_apply _ _ _ _ _ _ _ _ _ _ i k

/-- The numbers are laid out last. -/
theorem laid_out (R : Reduction) : after (finds R) V (main_v16 : DevRef τ sig)
    = shapeCast S16x1024 (after (finds R) V (main_v15 : DevRef τ sig)) shapeCasts_S16384_S16x1024 := by
  after_reads_simp
  rfl

/-- An array of rank 1 laid out in two axes is the same array with an axis of extent 1 more, so laid out. -/
theorem relay (u : IVec S16384 32) (v : IVec (⟨2, ![16384, 1]⟩ : Shape) 32) (e : ∀ i, u (ix1 i) = v (ix2 i 0))
    (h : S16384.ShapeCasts S16x1024) (h' : (⟨2, ![16384, 1]⟩ : Shape).ShapeCasts S16x1024) : shapeCast S16x1024 u h = shapeCast S16x1024 v h' := by
  funext y
  have hy : (y 0).val * 1024 + (y 1).val < 16384 := by
    have h0 : (y 0).val < 16 := (y 0).isLt
    have h1 : (y 1).val < 1024 := (y 1).isLt
    omega
  have e1 : shapeCast S16x1024 u h y = u (ix1 ⟨_, hy⟩) := by
    refine shapeCast_apply _ _ _ _ ?_
    rw [rowMajor_val1, rowMajor_val2 _ 1024 rfl]
  have e2 : shapeCast S16x1024 v h' y = v (ix2 ⟨_, hy⟩ 0) := by
    refine shapeCast_apply _ _ _ _ ?_
    rw [rowMajor_val2 _ 1 rfl, rowMajor_val2 _ 1024 rfl]
    show ((y 0).val * 1024 + (y 1).val) * 1 + 0 = (y 0).val * 1024 + (y 1).val
    omega
  rw [e1, e2, e]

/-- The first part's result: every row's nearest column, in two axes. -/
theorem found_eq (h' : (⟨2, ![16384, 1]⟩ : Shape).ShapeCasts S16x1024) : after (finds reduction) V (main_v16 : DevRef τ sig)
    = shapeCast S16x1024 (nearest (shapeCast S16384x64 (V (main_arg0 : DevRef τ sig)) shapeCasts_S16x1024x64_S16384x64)
        (V (main_arg1 : DevRef τ sig))) h' :=
  (laid_out V reduction).trans (relay _ _ (fun i => found_of V reduction i fun d => NearestHost.arg_row _ reducer_eq d _ _ i) _ h')

end Finds

/-! ### The second part -/

section Takes

variable (U : Valuation τ sig (Elt Ideal))

theorem takes_arg0 : after takes U (main_arg0 : DevRef τ sig) = U (main_arg0 : DevRef τ sig) := by
  after_results
theorem takes_arg1 : after takes U (main_arg1 : DevRef τ sig) = U (main_arg1 : DevRef τ sig) := by
  after_results
theorem takes_v16 : after takes U (main_v16 : DevRef τ sig) = U (main_v16 : DevRef τ sig) := by
  after_results

/-- What is taken. -/
abbrev took : FVec Ideal S16x1024x64 .f32 :=
  LookupHost.taken (transpose S8192x64 [1, 0] (U (main_arg1 : DevRef τ sig)) transposes_S64x8192_S8192x64_1_0) (U (main_v16 : DevRef τ sig))

theorem takes_v18 : after takes U (main_v18 : DevRef τ sig) = took U := by
  after_reads_simp
  rfl
theorem takes_v24 : after takes U (main_v24 : DevRef τ sig)
    = addf (F := Ideal) (φ := .f32) (U (main_arg0 : DevRef τ sig)) (subf (F := Ideal) (φ := .f32) (took U) (U (main_arg0 : DevRef τ sig))) := by
  rw [← takes_v18]
  after_reads_simp
theorem takes_v22 : after takes U (main_v22 : DevRef τ sig)
    = Host.divf (F := Ideal) (φ := .f32) (Host.reduceAdd (F := Ideal) (φ := .f32)
        (mulf (F := Ideal) (φ := .f32) (subf (F := Ideal) (φ := .f32) (took U) (U (main_arg0 : DevRef τ sig)))
          (subf (F := Ideal) (φ := .f32) (took U) (U (main_arg0 : DevRef τ sig))))
        (constant (F := Ideal) S_ .f32 0x00000000#32) reducesTo_S16x1024x64_S_d0_1_2 h_S_) (constant (F := Ideal) S_ .f32 0x49800000#32) := by
  rw [← takes_v18]
  after_reads_simp
theorem takes_v25 : after takes U (main_v25 : DevRef τ sig)
    = broadcastInDim S1 ![] bcast_S_S1 (constant (F := Ideal) S_ .f32 0x00000000#32) := by
  after_reads_simp

end Takes

/-! ### The run -/

variable (m : (ℓ : Loc nD τ sig) → Buf (Elt Ideal) ℓ) (ρ : Dev nD → PrngReg)

/-- The rows: the first argument with its leading axes merged. -/
abbrev rows (c : Dev nD) : Rows.Idx → EReal :=
  shapeCast S16384x64 (m ((c : Thread nD τ).loc main_arg0)) shapeCasts_S16x1024x64_S16384x64

/-- The columns: the second argument. -/
abbrev cols (c : Dev nD) : (⟨2, ![64, 8192]⟩ : Shape).Idx → EReal := m ((c : Thread nD τ).loc main_arg1)

/-- The columns, one to a row. -/
abbrev codes (c : Dev nD) : Codes.Idx → EReal :=
  transpose S8192x64 [1, 0] (m ((c : Thread nD τ).loc main_arg1)) transposes_S64x8192_S8192x64_1_0

variable (hN : ∀ c y, (nearest (rows m c) (cols m c) y).toNat < 8192)
  (h1 : (⟨2, ![16384, 1]⟩ : Shape).ShapeCasts S16x1024) (h3 : Rows.ShapeCasts S16x1024x64)

/-- The contents between the two parts. -/
abbrev between (c : Dev nD) : Valuation τ sig (Elt Ideal) := after (finds reduction) (fun b => m (c, b))

theorem after_ops (c : Dev nD) (b : DevRef τ sig) : after ops (fun b => m (c, b)) b = after takes (between m c) b :=
  congrFun (after_append _ _ _) b

theorem took_eq (c : Dev nD) : took (between m c) = LookupHost.taken (codes m c) (shapeCast S16x1024 (nearest (rows m c) (cols m c)) h1) := by
  unfold took between
  rw [finds_arg1, found_eq _ h1]

include h1 in
theorem took_apply (c : Dev nD) (a : Fin 16) (b : Fin 1024) (k : Fin 64) (i : Fin 16384) (hi : i.val = a.val * 1024 + b.val) :
    took (between m c) (ValueIdx.ix3 a b k)
      = codes m c (ix2 (LookupHost.named (nearest (rows m c) (cols m c)) (hN c) i) k) := by
  rw [took_eq m h1]
  exact LookupHost.taken_apply (codes m c) _ (hN c) _ a b k i hi

/-- The run: the four results, and the arguments as they were. -/
theorem run : θ_run defs (onTc (τ := τ) (main (F := Ideal))) ⟨m, fun _ => 0, ρ⟩ fun r => ∀ c : Dev nD,
      r.2.mem ((c : Thread nD τ).loc main_v24) = shapeCast S16x1024x64
        (quantized (rows m c) (codes m c) (LookupHost.named (nearest (rows m c) (cols m c)) (hN c))) h3
      ∧ r.2.mem ((c : Thread nD τ).loc main_v22)
          = (fun _ => meanSq (rows m c) (codes m c) (LookupHost.named (nearest (rows m c) (cols m c)) (hN c)))
      ∧ r.2.mem ((c : Thread nD τ).loc main_v25) = broadcastInDim S1 ![] bcast_S_S1 (constant (F := Ideal) S_ .f32 0x00000000#32)
      ∧ r.2.mem ((c : Thread nD τ).loc main_v16) = shapeCast S16x1024 (nearest (rows m c) (cols m c)) h1
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_)
    (run_seq scopedRefs_eq scopedSems_eq defs (main (F := Ideal)) (fun _ => ops) main_eq (fun _ => ops_sub) m ρ)
  have h' : ∀ b : Ref sig .tc, r.2.mem ((c : Thread nD τ).loc b) = after takes (between m c) (b : DevRef τ sig) :=
    fun b => (h c b).trans (after_ops m c b)
  have e0 : between m c (main_arg0 : DevRef τ sig) = m ((c : Thread nD τ).loc main_arg0) := finds_arg0 _ _
  refine ⟨(h' _).trans ((takes_v24 _).trans ?_), (h' _).trans ((takes_v22 _).trans ?_), (h' _).trans (takes_v25 _),
    (h' _).trans ((takes_v16 _).trans (found_eq _ h1)), (h' _).trans ((takes_arg0 _).trans e0),
    (h' _).trans ((takes_arg1 _).trans (finds_arg1 _ _))⟩
  · rw [e0, ← LookupHost.quantized_eq (codes m c) (m ((c : Thread nD τ).loc main_arg0)) (took (between m c)) _
      (took_apply m hN h1 c) shapeCasts_S16x1024x64_S16384x64]
    exact (shapeCast_shapeCast _ _ _).symm
  · rw [e0]
    funext j
    exact LookupHost.meanSq_eq (codes m c) (m ((c : Thread nD τ).loc main_arg0)) (took (between m c)) _
      (took_apply m hN h1 c) shapeCasts_S16x1024x64_S16384x64 j

end WholeRefRun

end
-- ==== Proof.lean ====
/-
  The certificate: the whole kernel against the whole reference over the extended reals, and each of the two calls, with the
  host code before it, against its own reference.
-/
module

public import proofs.«01_k».proof.Defs
public import proofs.«01_k».proof.Proof.Gen.Nearest
public import proofs.«01_k».proof.Proof.Gen.Nearest.Frame
public import proofs.«01_k».proof.Proof.Gen.NearestIdeal
public import proofs.«01_k».proof.Proof.Gen.NearestIdeal.Frame
public import proofs.«01_k».proof.Proof.Gen.NearestRefIdeal
public import proofs.«01_k».proof.Proof.Gen.Lookup
public import proofs.«01_k».proof.Proof.Gen.LookupIdeal
public import proofs.«01_k».proof.Proof.Gen.LookupRefIdeal
public import proofs.«01_k».proof.Proof.Gen.Pre_in_range
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Regions
public import proofs.«01_k».proof.Proof.Gen.ReferenceIdeal
public import proofs.«01_k».proof.Proof.NearestValue
public import proofs.«01_k».proof.Proof.NearestRefRun
public import proofs.«01_k».proof.Proof.LookupBits
public import proofs.«01_k».proof.Proof.LookupValue
public import proofs.«01_k».proof.Proof.LookupRefRun
public import proofs.«01_k».proof.Proof.WholeValue
public import proofs.«01_k».proof.Proof.WholeRefRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The first call runs, on float words. -/
theorem frame_nearest : Cert.quiescent_Nearest := fun m ρ _ => Cert.Nearest.Gen.frame m ρ

/-- The first call runs, on extended reals. -/
theorem frame_nearestIdeal : Cert.quiescent_NearestIdeal := fun m ρ _ => Cert.NearestIdeal.Gen.frame m ρ

/-- Its reference runs; it names no semaphore. -/
theorem frame_nearestRef : Cert.quiescent_NearestRefIdeal := fun m ρ _ =>
  (θ_run Cert.NearestRefIdeal.defs _ _).mono
    (fun r h => ⟨fun c => (h c).2, sem_eq_zero_of_no_sems (by decide) r.2⟩) (NearestRefRun.run m ρ)

/-- The first call and its reference both leave `nearest` of the arguments. -/
theorem nearest_agrees : Cert.algebraic_NearestIdeal_NearestRefIdeal := by
  intro m g m' g' _ hm
  refine ⟨fun c => NearestSpec.nearest (NearestValue.rows m c) (NearestValue.cols m c), NearestValue.run m g,
    (θ_run Cert.NearestRefIdeal.defs _ _).mono (fun r h c => ⟨(h c).1.trans ?_, (h c).2⟩) (NearestRefRun.run m' g')⟩
  exact congrArg₂ (fun x e => NearestSpec.nearest (shapeCast Cert.NearestIdeal.S16384x64 x
    Cert.NearestIdeal.Facts₀.shapeCasts_S16x1024x64_S16384x64) e) (hm c).1 (hm c).2

/-- The second call runs, on float words, given indices of rows that exist. -/
theorem frame_lookup : Cert.quiescent_Lookup := fun m ρ h =>
  LookupBits.frame m ρ fun c => LookupValue.inRange m c (LookupValue.lt_of_pre _ _ _ (h c))

/-- The second call runs, on extended reals. -/
theorem frame_lookupIdeal : Cert.quiescent_LookupIdeal := fun m ρ h =>
  LookupRun.frame m ρ fun c => LookupValue.inRange m c (LookupValue.lt_of_pre _ _ _ (h c))

/-- Its reference runs, whatever the indices. -/
theorem frame_lookupRef : Cert.quiescent_LookupRefIdeal := fun m ρ _ =>
  (θ_run Cert.LookupRefIdeal.defs _ _).mono
    (fun r h => ⟨fun c => (h c).2.2, sem_eq_zero_of_no_sems (by decide) r.2⟩) (Cert.LookupRefIdeal.Value.run m ρ)

theorem frame_lookupRef_in_range : Cert.quiescent_LookupRefIdeal_pre_in_range := fun m ρ _ => frame_lookupRef m ρ trivial

/-- The second call and its reference both leave `quantized` and `meanSq` of the arguments. -/
theorem lookup_agrees : Cert.algebraic_LookupIdeal_LookupRefIdeal := by
  intro m g m' g' hp hm
  have hN : ∀ c y, (m ((Dev.tc c : Thread Cert.LookupIdeal.nD Cert.LookupIdeal.τ).loc Cert.LookupIdeal.main_arg0) y).toNat < 8192 :=
    fun c => LookupValue.lt_of_pre _ _ _ (hp c)
  have hN' : ∀ c y, (m' ((Dev.tc c : Thread Cert.LookupRefIdeal.nD Cert.LookupRefIdeal.τ).loc Cert.LookupRefIdeal.main_arg0) y).toNat < 8192 :=
    fun c => by rw [(hm c).1]; exact hN c
  have hr : ∀ c, LookupRefRun.rowNamed m' hN' c = LookupValue.rowNamed m hN c := fun c =>
    funext fun i => Fin.ext (congrArg (fun n => BitVec.toNat (n (ValueIdx.ix2 i 0))) (hm c).1)
  have hx : ∀ c, LookupRefRun.vectors m' c = LookupValue.vectors m c := fun c =>
    congrArg (fun x => shapeCast Cert.LookupIdeal.S16384x64 x Cert.LookupIdeal.Facts₀.shapeCasts_S16x1024x64_S16384x64) (hm c).2.1
  have he : ∀ c, LookupRefRun.codes m' c = LookupValue.codes m c := fun c =>
    congrArg (fun e => transpose Cert.LookupIdeal.S8192x64 [1, 0] e Cert.LookupIdeal.Facts₀.transposes_S64x8192_S8192x64_1_0) (hm c).2.2
  refine ⟨fun c => LookupSpec.quantized (LookupValue.vectors m c) (LookupValue.codes m c) (LookupValue.rowNamed m hN c),
    fun c _ => LookupSpec.meanSq (LookupValue.vectors m c) (LookupValue.codes m c) (LookupValue.rowNamed m hN c), LookupValue.run m g hN,
    (θ_run Cert.LookupRefIdeal.defs _ _).mono (fun r h c => ⟨(h c).1.trans ?_, (h c).2.1.trans ?_, (h c).2.2⟩) (LookupRefRun.run m' g' hN')⟩
  · rw [hx, he, hr]
  · rw [hx, he, hr]; rfl

/-- The whole kernel runs, on extended reals. -/
theorem frame_kernelIdeal : Cert.quiescent_KernelIdeal := fun m ρ _ =>
  (θ_run Cert.KernelIdeal.defs _ _).mono (fun r h => ⟨fun c => (h.1 c).2.2.2.2, h.2⟩) (WholeValue.run m ρ)

/-- The whole reference runs. -/
theorem frame_referenceIdeal : Cert.quiescent_ReferenceIdeal := fun m ρ _ =>
  (θ_run Cert.ReferenceIdeal.defs _ _).mono
    (fun r h => ⟨fun c => (h c).2.2.2.2, sem_eq_zero_of_no_sems (by decide) r.2⟩)
    (WholeRefRun.run m ρ (fun _ => NearestSpec.nearest_toNat_lt _ _) Cert.KernelIdeal.Facts₀.shapeCasts_S16384x1_S16x1024
      Cert.KernelIdeal.Facts₀.shapeCasts_S16384x64_S16x1024x64)

/-- The whole kernel and the whole reference leave the same four results. -/
theorem whole_agrees : Cert.algebraic_KernelIdeal_ReferenceIdeal := by
  intro m g m' g' _ hm
  have hx : ∀ c, WholeRefRun.rows m' c = WholeValue.rows m c := fun c =>
    congrArg (fun x => shapeCast Cert.KernelIdeal.S16384x64 x Cert.KernelIdeal.Facts₀.shapeCasts_S16x1024x64_S16384x64) (hm c).1
  have he : ∀ c, WholeRefRun.cols m' c = WholeValue.cols m c := fun c => (hm c).2
  have ht : ∀ c, WholeRefRun.codes m' c = WholeValue.codes m c := fun c =>
    congrArg (fun e => transpose Cert.KernelIdeal.S8192x64 [1, 0] e Cert.KernelIdeal.Facts₀.transposes_S64x8192_S8192x64_1_0) (hm c).2
  have hn : ∀ c, NearestSpec.nearest (WholeRefRun.rows m' c) (WholeRefRun.cols m' c)
      = NearestSpec.nearest (WholeValue.rows m c) (WholeValue.cols m c) := fun c => by rw [hx, he]
  have hN : ∀ c y, (NearestSpec.nearest (WholeRefRun.rows m' c) (WholeRefRun.cols m' c) y).toNat < 8192 :=
    fun _ => NearestSpec.nearest_toNat_lt _ _
  have hr : ∀ c, LookupHost.named _ (hN c) = WholeValue.chosen m c := fun c =>
    funext fun i => Fin.ext (congrArg (fun n => BitVec.toNat (n (ValueIdx.ix2 i 0))) (hn c))
  refine ⟨_, _, _, _, (θ_run Cert.KernelIdeal.defs _ _).mono (fun r h => h.1) (WholeValue.run m g),
    (θ_run Cert.ReferenceIdeal.defs _ _).mono
      (fun r h c => ⟨(h c).1.trans ?_, (h c).2.1.trans ?_, (h c).2.2.1.trans ?_, (h c).2.2.2.1.trans ?_, (h c).2.2.2.2⟩)
      (WholeRefRun.run m' g' hN Cert.KernelIdeal.Facts₀.shapeCasts_S16384x1_S16x1024
        Cert.KernelIdeal.Facts₀.shapeCasts_S16384x64_S16x1024x64)⟩
  · rw [hr, hx, ht]
  · rw [hr, hx, ht]; rfl
  · rfl
  · rw [hn]

theorem claim : Cert.Claim :=
  ⟨Cert.Nearest.Gen.facts, Cert.NearestIdeal.Gen.facts, Cert.NearestRefIdeal.Gen.facts, Cert.Lookup.Gen.facts, Cert.LookupIdeal.Gen.facts,
    Cert.LookupRefIdeal.Gen.facts, Cert.KernelIdeal.Gen.facts, Cert.ReferenceIdeal.Gen.facts, Cert.Pre_in_range.Gen.facts,
    frame_nearest, frame_nearestIdeal, frame_nearestRef, frame_lookup, frame_lookupIdeal, frame_lookupRef, frame_lookupRef_in_range,
    frame_kernelIdeal, frame_referenceIdeal, trivial, nearest_agrees, trivial, lookup_agrees, whole_agrees⟩

end Cert.Proof

end
